-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_names_experts : Cert.Pre_names_experts.Facts] (m : (ℓ : Loc Cert.Kernel5.nD Cert.Kernel5.τ Cert.Kernel5.sig) → Buf (Elt Bits) ℓ) : Prop :=
  ∀ c : Dev Cert.Kernel5.nD,
    (Cert.Pre_names_experts.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_names_experts : Cert.Pre_names_experts.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_names_experts.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal [hPre_names_experts : Cert.Pre_names_experts.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_names_experts.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_finite : Cert.Pre_finite.Facts] (m : (ℓ : Loc Cert.Kernel8.nD Cert.Kernel8.τ Cert.Kernel8.sig) → Buf (Elt Bits) ℓ) : Prop :=
  ∀ c : Dev Cert.Kernel8.nD,
    (Cert.Pre_finite.fn (F := Bits) (m ((c.tc : Thread Cert.Kernel8.nD Cert.Kernel8.τ).loc Cert.Kernel8.main_arg0)) (m ((c.tc : Thread Cert.Kernel8.nD Cert.Kernel8.τ).loc Cert.Kernel8.main_arg1))) = (fun _ => 1#1)

def Pre_Kernel8Ideal [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] [hPre_names_experts : Cert.Pre_names_experts.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_names_experts : Cert.Pre_names_experts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] [hPre_names_experts : Cert.Pre_names_experts.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] [hPre_finite : Cert.Pre_finite.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] [hPre_names_experts : Cert.Pre_names_experts.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v24)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v24) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v58) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_names_experts : Cert.Pre_names_experts.Facts) (hPre_finite : Cert.Pre_finite.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_names_experts := hPre_names_experts)
    ∧ quiescent_Kernel5Ideal (hKernel5Ideal := hKernel5Ideal) (hPre_names_experts := hPre_names_experts)
    ∧ quiescent_Reference5Ideal (hReference5Ideal := hReference5Ideal) (hPre_names_experts := hPre_names_experts)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_finite := hPre_finite)
    ∧ quiescent_Kernel8Ideal (hKernel8Ideal := hKernel8Ideal) (hPre_finite := hPre_finite)
    ∧ quiescent_Reference8Ideal (hReference8Ideal := hReference8Ideal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_names_experts := hPre_names_experts)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_finite := hPre_finite)
-- ==== Pre_finite.lean ====
abbrev S16x4096x1024 : Shape := ⟨3, ![16, 4096, 1024]⟩
abbrev S1024x8 : Shape := ⟨2, ![1024, 8]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16x4096x1024 .f32) (main_arg1 : FVec F S1024x8 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_names_experts.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S264 : S_.BroadcastsInDim S264 (![] : Fin 0 → Fin S264.rank)

variable [Facts]

def fn {F : FTy → Type} [FloatOps F] (main_arg0 : FVec F S135168x1024 .f32) (main_arg1 : IVec S264 32) (main_arg2 : IVec S1 32) (main_arg3 : FVec F S8x1024x3584 .f32) (main_arg4 : FVec F S8x1024x3584 .f32) (main_arg5 : FVec F S8x3584x1024 .f32) : IVec S264 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 7#32
  let main_v2 : IVec S264 32 := broadcastInDim S264 ![] bcast_S_S264 main_c_0
  let main_v3 : IVec S264 1 := cmpi .sle main_arg1 main_v2
  let main_v4 : IVec S264 1 := andi main_v1 main_v3
  main_v4
-- ==== Kernel2.lean ====
abbrev S16x4096x1024 : Shape := ⟨3, ![16, 4096, 1024]⟩
abbrev S1024 : Shape := ⟨1, ![1024]⟩
abbrev S1024x11264 : Shape := ⟨2, ![1024, 11264]⟩
abbrev S65536x1024 : Shape := ⟨2, ![65536, 1024]⟩
abbrev S1x1024 : Shape := ⟨2, ![1, 1024]⟩
abbrev S88x65536x128 : Shape := ⟨3, ![88, 65536, 128]⟩
abbrev S2048x1024 : Shape := ⟨2, ![2048, 1024]⟩
abbrev S1024x1024 : Shape := ⟨2, ![1024, 1024]⟩
abbrev S8x2048x128 : Shape := ⟨3, ![8, 2048, 128]⟩
abbrev S2048 : Shape := ⟨1, ![2048]⟩
abbrev S2048x1 : Shape := ⟨2, ![2048, 1]⟩
abbrev S2048x128 : Shape := ⟨2, ![2048, 128]⟩
abbrev S1x2048x128 : Shape := ⟨3, ![1, 2048, 128]⟩

abbrev nBuf : Space → Nat
  | .hbm => 7
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x11264, .f32⟩
  | .hbm, ⟨3, _⟩ => ⟨S65536x1024, .f32⟩
  | .hbm, ⟨4, _⟩ => ⟨S1x1024, .f32⟩
  | .hbm, ⟨5, _⟩ => ⟨S1024x11264, .bf16⟩
  | .hbm, ⟨6, _⟩ => ⟨S88x65536x128, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S8x2048x128, .bf16⟩
  | .local _ .vmem, ⟨6, _⟩ => ⟨S8x2048x128, .bf16⟩
  | .local _ .vmem, ⟨7, _⟩ => ⟨S2048x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16x4096x1024 : Shape := ⟨3, ![16, 4096, 1024]⟩
abbrev S1024 : Shape := ⟨1, ![1024]⟩
abbrev S1024x11264 : Shape := ⟨2, ![1024, 11264]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x11264 : Shape := ⟨3, ![16, 4096, 11264]⟩
abbrev S65536x88x128 : Shape := ⟨3, ![65536, 88, 128]⟩
abbrev S88x65536x128 : Shape := ⟨3, ![88, 65536, 128]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x11264, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x11264, .f32⟩
  | .hbm, ⟨20, _⟩ => ⟨S65536x88x128, .f32⟩
  | .hbm, ⟨21, _⟩ => ⟨S88x65536x128, .f32⟩
  | .hbm, ⟨22, _⟩ => ⟨S88x65536x128, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024x2816 : Shape := ⟨2, ![1024, 2816]⟩
abbrev S2816x1024 : Shape := ⟨2, ![2816, 1024]⟩
abbrev S65536x1024 : Shape := ⟨2, ![65536, 1024]⟩
abbrev S512x1024 : Shape := ⟨2, ![512, 1024]⟩
abbrev S512x2816 : Shape := ⟨2, ![512, 2816]⟩

abbrev nBuf : Space → Nat
  | .hbm => 12
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S65536x1024, .bf16⟩
  | .hbm, ⟨7, _⟩ => ⟨S65536x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![128, 1], ![false, false]⟩

def k0_cond3 (i : grid0.Coords) : BitVec 1 :=
  let arg1 : BitVec 32 := BitVec.ofNat 32 (i 1).val
  let c0_i32_12 : BitVec 32 := 0#32
  let v21 : BitVec 1 := Scalar.cmpi .eq arg1 c0_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16x4096x1024 : Shape := ⟨3, ![16, 4096, 1024]⟩
abbrev S1024x2816 : Shape := ⟨2, ![1024, 2816]⟩
abbrev S2816x1024 : Shape := ⟨2, ![2816, 1024]⟩
abbrev S16x4096x2816 : Shape := ⟨3, ![16, 4096, 2816]⟩
abbrev S_ : Shape := ⟨0, ![]⟩
abbrev S65536x1024 : Shape := ⟨2, ![65536, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x4096x2816, .f32⟩
  | .hbm, ⟨6, _⟩ => ⟨S16x4096x2816, .f32⟩
  | .hbm, ⟨7, _⟩ => ⟨S16x4096x2816, .f32⟩
  | .hbm, ⟨8, _⟩ => ⟨S_, .f32⟩
  | .hbm, ⟨9, _⟩ => ⟨S16x4096x2816, .f32⟩
  | .hbm, ⟨10, _⟩ => ⟨S16x4096x2816, .f32⟩
  | .hbm, ⟨11, _⟩ => ⟨S_, .f32⟩
  | .hbm, ⟨12, _⟩ => ⟨S16x4096x2816, .f32⟩
  | .hbm, ⟨13, _⟩ => ⟨S16x4096x2816, .f32⟩
  | .hbm, ⟨14, _⟩ => ⟨S16x4096x2816, .f32⟩
  | .hbm, ⟨15, _⟩ => ⟨S16x4096x2816, .f32⟩
  | .hbm, ⟨16, _⟩ => ⟨S16x4096x2816, .f32⟩
  | .hbm, ⟨17, _⟩ => ⟨S16x4096x1024, .f32⟩
  | .hbm, ⟨18, _⟩ => ⟨S16x4096x1024, .f32⟩
  | .hbm, ⟨19, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x4096x11264 : Shape := ⟨3, ![16, 4096, 11264]⟩
abbrev S16x4096x512 : Shape := ⟨3, ![16, 4096, 512]⟩
abbrev S3x512x1024 : Shape := ⟨3, ![3, 512, 1024]⟩
abbrev S1024x1024 : Shape := ⟨2, ![1024, 1024]⟩
abbrev S1024 : Shape := ⟨1, ![1024]⟩
abbrev S65536x1024 : Shape := ⟨2, ![65536, 1024]⟩
abbrev S65536x88x128 : Shape := ⟨3, ![65536, 88, 128]⟩
abbrev S88x65536x128 : Shape := ⟨3, ![88, 65536, 128]⟩
abbrev S65536x4x128 : Shape := ⟨3, ![65536, 4, 128]⟩
abbrev S4x65536x128 : Shape := ⟨3, ![4, 65536, 128]⟩
abbrev S1x1024 : Shape := ⟨2, ![1, 1024]⟩
abbrev S512x1024 : Shape := ⟨2, ![512, 1024]⟩
abbrev S4x512x128 : Shape := ⟨3, ![4, 512, 128]⟩
abbrev S8x512x128 : Shape := ⟨3, ![8, 512, 128]⟩
abbrev S1x512x128 : Shape := ⟨3, ![1, 512, 128]⟩
abbrev S512x128 : Shape := ⟨2, ![512, 128]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 26
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x4096x11264, .f32⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S65536x1024, .f32⟩
  | .hbm, ⟨9, _⟩ => ⟨S65536x88x128, .f32⟩
  | .hbm, ⟨10, _⟩ => ⟨S88x65536x128, .f32⟩
  | .hbm, ⟨11, _⟩ => ⟨S88x65536x128, .bf16⟩
  | .hbm, ⟨12, _⟩ => ⟨S65536x4x128, .f32⟩
  | .hbm, ⟨13, _⟩ => ⟨S4x65536x128, .f32⟩
  | .hbm, ⟨14, _⟩ => ⟨S4x65536x128, .bf16⟩
  | .hbm, ⟨15, _⟩ => ⟨S65536x4x128, .f32⟩
  | .hbm, ⟨16, _⟩ => ⟨S4x65536x128, .f32⟩
  | .hbm, ⟨17, _⟩ => ⟨S4x65536x128, .bf16⟩
  | .hbm, ⟨18, _⟩ => ⟨S65536x4x128, .f32⟩
  | .hbm, ⟨19, _⟩ => ⟨S4x65536x128, .f32⟩
  | .hbm, ⟨20, _⟩ => ⟨S4x65536x128, .bf16⟩
  | .hbm, ⟨21, _⟩ => ⟨S3x512x1024, .bf16⟩
  | .hbm, ⟨22, _⟩ => ⟨S1024x1024, .bf16⟩
  | .hbm, ⟨23, _⟩ => ⟨S1x1024, .f32⟩
  | .hbm, ⟨24, _⟩ => ⟨S65536x1024, .f32⟩
  | .hbm, ⟨25, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S8x512x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S8x512x128, .bf16⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_5 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_6 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  ![c10_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16x4096x1024 : Shape := ⟨3, ![16, 4096, 1024]⟩
abbrev S16x4096x11264 : Shape := ⟨3, ![16, 4096, 11264]⟩
abbrev S16x4096x512 : Shape := ⟨3, ![16, 4096, 512]⟩
abbrev S3x512x1024 : Shape := ⟨3, ![3, 512, 1024]⟩
abbrev S1024x1024 : Shape := ⟨2, ![1024, 1024]⟩
abbrev S1024 : Shape := ⟨1, ![1024]⟩
abbrev S_ : Shape := ⟨0, ![]⟩
abbrev S1x512x1024 : Shape := ⟨3, ![1, 512, 1024]⟩
abbrev S512x1024 : Shape := ⟨2, ![512, 1024]⟩
abbrev S16x4096 : Shape := ⟨2, ![16, 4096]⟩
abbrev S16x4096x1 : Shape := ⟨3, ![16, 4096, 1]⟩
abbrev S65536x1024 : Shape := ⟨2, ![65536, 1024]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x11264, .f32⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S16x4096x1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S_, .f32⟩
  | .hbm, ⟨17, _⟩ => ⟨S16x4096x1024, .f32⟩
  | .hbm, ⟨18, _⟩ => ⟨S16x4096x1024, .f32⟩
  | .hbm, ⟨19, _⟩ => ⟨S1x512x1024, .f32⟩
  | .hbm, ⟨20, _⟩ => ⟨S512x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1024, .f32⟩
  | .hbm, ⟨33, _⟩ => ⟨S16x4096x1024, .f32⟩
  | .hbm, ⟨34, _⟩ => ⟨S1x512x1024, .f32⟩
  | .hbm, ⟨35, _⟩ => ⟨S512x1024, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096x1024, .f32⟩
  | .hbm, ⟨46, _⟩ => ⟨S16x4096x1024, .f32⟩
  | .hbm, ⟨47, _⟩ => ⟨S1x512x1024, .f32⟩
  | .hbm, ⟨48, _⟩ => ⟨S512x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S_, .f32⟩
  | .hbm, ⟨56, _⟩ => ⟨S16x4096, .f32⟩
  | .hbm, ⟨57, _⟩ => ⟨S16x4096x1, .f32⟩
  | .hbm, ⟨58, _⟩ => ⟨S_, .f32⟩
  | .hbm, ⟨59, _⟩ => ⟨S16x4096x1, .f32⟩
  | .hbm, ⟨60, _⟩ => ⟨S16x4096x1, .f32⟩
  | .hbm, ⟨61, _⟩ => ⟨S_, .f32⟩
  | .hbm, ⟨62, _⟩ => ⟨S16x4096x1, .f32⟩
  | .hbm, ⟨63, _⟩ => ⟨S16x4096x1, .f32⟩
  | .hbm, ⟨64, _⟩ => ⟨S16x4096x1, .f32⟩
  | .hbm, ⟨65, _⟩ => ⟨S16x4096x1024, .f32⟩
  | .hbm, ⟨66, _⟩ => ⟨S16x4096x1024, .f32⟩
  | .hbm, ⟨67, _⟩ => ⟨S65536x1024, .f32⟩
  | .hbm, ⟨68, _⟩ => ⟨S1x1x1024, .f32⟩
  | .hbm, ⟨69, _⟩ => ⟨S16x4096x1024, .f32⟩
  | .hbm, ⟨70, _⟩ => ⟨S16x4096x1024, .f32⟩
  | .hbm, ⟨71, _⟩ => ⟨S65536x1024, .f32⟩
  | .hbm, ⟨72, _⟩ => ⟨S65536x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel5.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 9
  | .vmem => 11
  | .smem => 2
  | _ => 0

abbrev bufTy : (tb : Table) → Fin (tcTables nBuf tb) → BufTy
  | .hbm, ⟨0, _⟩ => ⟨S135168x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S135168x1024, .bf16⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S135168x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S264, .i32⟩
  | .local _ .smem, ⟨1, _⟩ => ⟨S1, .i32⟩
  | _, _ => ⟨S135168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![264, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S135168x1024 : Shape := ⟨2, ![135168, 1024]⟩
abbrev S264 : Shape := ⟨1, ![264]⟩
abbrev S1 : Shape := ⟨1, ![1]⟩
abbrev S8x1024x3584 : Shape := ⟨3, ![8, 1024, 3584]⟩
abbrev S8x3584x1024 : Shape := ⟨3, ![8, 3584, 1024]⟩
abbrev S264x512x1024 : Shape := ⟨3, ![264, 512, 1024]⟩
abbrev S_ : Shape := ⟨0, ![]⟩
abbrev S264x1 : Shape := ⟨2, ![264, 1]⟩
abbrev S264x3 : Shape := ⟨2, ![264, 3]⟩
abbrev S264x1x1024x3584 : Shape := ⟨4, ![264, 1, 1024, 3584]⟩
abbrev S264x1024x3584 : Shape := ⟨3, ![264, 1024, 3584]⟩
abbrev S264x512x3584 : Shape := ⟨3, ![264, 512, 3584]⟩
abbrev S264x1x3584x1024 : Shape := ⟨4, ![264, 1, 3584, 1024]⟩
abbrev S264x3584x1024 : Shape := ⟨3, ![264, 3584, 1024]⟩
abbrev S264x1x1 : Shape := ⟨3, ![264, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S135168x1024, .f32⟩
  | .hbm, ⟨1, _⟩ => ⟨S264, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S264x512x1024, .f32⟩
  | .hbm, ⟨7, _⟩ => ⟨S_, .i32⟩
  | .hbm, ⟨8, _⟩ => ⟨S264, .i32⟩
  | .hbm, ⟨9, _⟩ => ⟨S264, .i1⟩
  | .hbm, ⟨10, _⟩ => ⟨S_, .i32⟩
  | .hbm, ⟨11, _⟩ => ⟨S264, .i32⟩
  | .hbm, ⟨12, _⟩ => ⟨S264, .i32⟩
  | .hbm, ⟨13, _⟩ => ⟨S264, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S264x1, .i32⟩
  | .hbm, ⟨31, _⟩ => ⟨S264x1, .i32⟩
  | .hbm, ⟨32, _⟩ => ⟨S264x1, .i32⟩
  | .hbm, ⟨33, _⟩ => ⟨S264x3, .i32⟩
  | .hbm, ⟨34, _⟩ => ⟨S264x1x1024x3584, .f32⟩
  | .hbm, ⟨35, _⟩ => ⟨S264x1024x3584, .f32⟩
  | .hbm, ⟨36, _⟩ => ⟨S264x512x3584, .f32⟩
  | .hbm, ⟨37, _⟩ => ⟨S264x512x3584, .f32⟩
  | .hbm, ⟨38, _⟩ => ⟨S264x512x3584, .f32⟩
  | .hbm, ⟨39, _⟩ => ⟨S_, .f32⟩
  | .hbm, ⟨40, _⟩ => ⟨S264x512x3584, .f32⟩
  | .hbm, ⟨41, _⟩ => ⟨S264x512x3584, .f32⟩
  | .hbm, ⟨42, _⟩ => ⟨S_, .f32⟩
  | .hbm, ⟨43, _⟩ => ⟨S264x512x3584, .f32⟩
  | .hbm, ⟨44, _⟩ => ⟨S264x512x3584, .f32⟩
  | .hbm, ⟨45, _⟩ => ⟨S264x512x3584, .f32⟩
  | .hbm, ⟨46, _⟩ => ⟨S_, .i32⟩
  | .hbm, ⟨47, _⟩ => ⟨S264, .i32⟩
  | .hbm, ⟨48, _⟩ => ⟨S264, .i1⟩
  | .hbm, ⟨49, _⟩ => ⟨S_, .i32⟩
  | .hbm, ⟨50, _⟩ => ⟨S264, .i32⟩
  | .hbm, ⟨51, _⟩ => ⟨S264, .i32⟩
  | .hbm, ⟨52, _⟩ => ⟨S264, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S264x1, .i32⟩
  | .hbm, ⟨70, _⟩ => ⟨S264x1, .i32⟩
  | .hbm, ⟨71, _⟩ => ⟨S264x1, .i32⟩
  | .hbm, ⟨72, _⟩ => ⟨S264x3, .i32⟩
  | .hbm, ⟨73, _⟩ => ⟨S264x1x1024x3584, .f32⟩
  | .hbm, ⟨74, _⟩ => ⟨S264x1024x3584, .f32⟩
  | .hbm, ⟨75, _⟩ => ⟨S264x512x3584, .f32⟩
  | .hbm, ⟨76, _⟩ => ⟨S264x512x3584, .f32⟩
  | .hbm, ⟨77, _⟩ => ⟨S_, .i32⟩
  | .hbm, ⟨78, _⟩ => ⟨S264, .i32⟩
  | .hbm, ⟨79, _⟩ => ⟨S264, .i1⟩
  | .hbm, ⟨80, _⟩ => ⟨S_, .i32⟩
  | .hbm, ⟨81, _⟩ => ⟨S264, .i32⟩
  | .hbm, ⟨82, _⟩ => ⟨S264, .i32⟩
  | .hbm, ⟨83, _⟩ => ⟨S264, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S264x1, .i32⟩
  | .hbm, ⟨101, _⟩ => ⟨S264x1, .i32⟩
  | .hbm, ⟨102, _⟩ => ⟨S264x1, .i32⟩
  | .hbm, ⟨103, _⟩ => ⟨S264x3, .i32⟩
  | .hbm, ⟨104, _⟩ => ⟨S264x1x3584x1024, .f32⟩
  | .hbm, ⟨105, _⟩ => ⟨S264x3584x1024, .f32⟩
  | .hbm, ⟨106, _⟩ => ⟨S264x512x1024, .f32⟩
  | .hbm, ⟨107, _⟩ => ⟨S264, .i32⟩
  | .hbm, ⟨108, _⟩ => ⟨S_, .i32⟩
  | .hbm, ⟨109, _⟩ => ⟨S264, .i32⟩
  | .hbm, ⟨110, _⟩ => ⟨S264, .i1⟩
  | .hbm, ⟨111, _⟩ => ⟨S264x1x1, .i1⟩
  | .hbm, ⟨112, _⟩ => ⟨S_, .f32⟩
  | .hbm, ⟨113, _⟩ => ⟨S_, .f32⟩
  | .hbm, ⟨114, _⟩ => ⟨S264x512x1024, .i1⟩
  | .hbm, ⟨115, _⟩ => ⟨S264x512x1024, .f32⟩
  | .hbm, ⟨116, _⟩ => ⟨S264x512x1024, .f32⟩
  | .hbm, ⟨117, _⟩ => ⟨S135168x1024, .f32⟩
  | .hbm, ⟨118, _⟩ => ⟨S135168x1024, .bf16⟩
  | _, _ => ⟨S135168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_c_6 : Ref sig .tc := ⟨.hbm, 22, rfl⟩
abbrev main_c_7 : Ref sig .tc := ⟨.hbm, 23, rfl⟩
abbrev main_v9 : Ref sig .tc := ⟨.hbm, 24, rfl⟩
abbrev main_c_8 : Ref sig .tc := ⟨.hbm, 25, rfl⟩
abbrev main_c_9 : Ref sig .tc := ⟨.hbm, 26, rfl⟩
abbrev main_v10 : Ref sig .tc := ⟨.hbm, 27, rfl⟩
abbrev main_c_10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_c_11 : Ref sig .tc := ⟨.hbm, 46, rfl⟩
abbrev main_v20 : Ref sig .tc := ⟨.hbm, 47, rfl⟩
abbrev main_v21 : Ref sig .tc := ⟨.hbm, 48, rfl⟩
abbrev main_c_12 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_13 : Ref sig .tc := ⟨.hbm, 53, rfl⟩
abbrev main_c_14 : Ref sig .tc := ⟨.hbm, 54, rfl⟩
abbrev main_v25 : Ref sig .tc := ⟨.hbm, 55, rfl⟩
abbrev main_c_15 : Ref sig .tc := ⟨.hbm, 56, rfl⟩
abbrev main_c_16 : Ref sig .tc := ⟨.hbm, 57, rfl⟩
abbrev main_v26 : Ref sig .tc := ⟨.hbm, 58, rfl⟩
abbrev main_c_17 : Ref sig .tc := ⟨.hbm, 59, rfl⟩
abbrev main_v27 : Ref sig .tc := ⟨.hbm, 60, rfl⟩
abbrev main_c_18 : Ref sig .tc := ⟨.hbm, 61, rfl⟩
abbrev main_c_19 : Ref sig .tc := ⟨.hbm, 62, rfl⟩
abbrev main_v28 : Ref sig .tc := ⟨.hbm, 63, rfl⟩
abbrev main_c_20 : Ref sig .tc := ⟨.hbm, 64, rfl⟩
abbrev main_c_21 : Ref sig .tc := ⟨.hbm, 65, rfl⟩
abbrev main_v29 : Ref sig .tc := ⟨.hbm, 66, rfl⟩
abbrev main_c_22 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_23 : Ref sig .tc := ⟨.hbm, 77, rfl⟩
abbrev main_v39 : Ref sig .tc := ⟨.hbm, 78, rfl⟩
abbrev main_v40 : Ref sig .tc := ⟨.hbm, 79, rfl⟩
abbrev main_c_24 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_25 : Ref sig .tc := ⟨.hbm, 84, rfl⟩
abbrev main_c_26 : Ref sig .tc := ⟨.hbm, 85, rfl⟩
abbrev main_v44 : Ref sig .tc := ⟨.hbm, 86, rfl⟩
abbrev main_c_27 : Ref sig .tc := ⟨.hbm, 87, rfl⟩
abbrev main_c_28 : Ref sig .tc := ⟨.hbm, 88, rfl⟩
abbrev main_v45 : Ref sig .tc := ⟨.hbm, 89, rfl⟩
abbrev main_c_29 : Ref sig .tc := ⟨.hbm, 90, rfl⟩
abbrev main_v46 : Ref sig .tc := ⟨.hbm, 91, rfl⟩
abbrev main_c_30 : Ref sig .tc := ⟨.hbm, 92, rfl⟩
abbrev main_c_31 : Ref sig .tc := ⟨.hbm, 93, rfl⟩
abbrev main_v47 : Ref sig .tc := ⟨.hbm, 94, rfl⟩
abbrev main_c_32 : Ref sig .tc := ⟨.hbm, 95, rfl⟩
abbrev main_c_33 : Ref sig .tc := ⟨.hbm, 96, rfl⟩
abbrev main_v48 : Ref sig .tc := ⟨.hbm, 97, rfl⟩
abbrev main_c_34 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩

abbrev nD : Nat := 1
abbrev τ : Topo := Topo.v7x

variable {F : FTy → Type} [FloatOps F]
-- ==== Kernel6.lean ====
abbrev S16x4096x1024 : Shape := ⟨3, ![16, 4096, 1024]⟩
abbrev S135168x1024 : Shape := ⟨2, ![135168, 1024]⟩
abbrev S65536x2 : Shape := ⟨2, ![65536, 2]⟩
abbrev S65536x1 : Shape := ⟨2, ![65536, 1]⟩
abbrev S65536 : Shape := ⟨1, ![65536]⟩
abbrev S_ : Shape := ⟨0, ![]⟩
abbrev S65536x1024 : Shape := ⟨2, ![65536, 1024]⟩
abbrev S65536x124 : Shape := ⟨2, ![65536, 124]⟩
abbrev S65536x128 : Shape := ⟨2, ![65536, 128]⟩
abbrev S512x1024 : Shape := ⟨2, ![512, 1024]⟩
abbrev S512x128 : Shape := ⟨2, ![512, 128]⟩
abbrev S512x1 : Shape := ⟨2, ![512, 1]⟩

abbrev nBuf : Space → Nat
  | .hbm => 35
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S135168x1024, .f32⟩
  | .hbm, ⟨2, _⟩ => ⟨S65536x2, .i32⟩
  | .hbm, ⟨3, _⟩ => ⟨S65536x2, .f32⟩
  | .hbm, ⟨4, _⟩ => ⟨S135168x1024, .bf16⟩
  | .hbm, ⟨5, _⟩ => ⟨S65536x1, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x1024, .bf16⟩
  | .hbm, ⟨16, _⟩ => ⟨S135168x1024, .bf16⟩
  | .hbm, ⟨17, _⟩ => ⟨S65536x1, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x1024, .bf16⟩
  | .hbm, ⟨28, _⟩ => ⟨S_, .f32⟩
  | .hbm, ⟨29, _⟩ => ⟨S65536x2, .f32⟩
  | .hbm, ⟨30, _⟩ => ⟨S_, .f32⟩
  | .hbm, ⟨31, _⟩ => ⟨S65536x124, .f32⟩
  | .hbm, ⟨32, _⟩ => ⟨S65536x128, .f32⟩
  | .hbm, ⟨33, _⟩ => ⟨S65536x1024, .f32⟩
  | .hbm, ⟨34, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel6Ideal.lean ====
abbrev S16x4096x1024 : Shape := ⟨3, ![16, 4096, 1024]⟩
abbrev S135168x1024 : Shape := ⟨2, ![135168, 1024]⟩
abbrev S65536x2 : Shape := ⟨2, ![65536, 2]⟩
abbrev S65536x1 : Shape := ⟨2, ![65536, 1]⟩
abbrev S65536 : Shape := ⟨1, ![65536]⟩
abbrev S_ : Shape := ⟨0, ![]⟩
abbrev S65536x1024 : Shape := ⟨2, ![65536, 1024]⟩
abbrev S65536x124 : Shape := ⟨2, ![65536, 124]⟩
abbrev S65536x128 : Shape := ⟨2, ![65536, 128]⟩
abbrev S512x1024 : Shape := ⟨2, ![512, 1024]⟩
abbrev S512x128 : Shape := ⟨2, ![512, 128]⟩
abbrev S512x1 : Shape := ⟨2, ![512, 1]⟩

abbrev nBuf : Space → Nat
  | .hbm => 35
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S135168x1024, .f32⟩
  | .hbm, ⟨2, _⟩ => ⟨S65536x2, .i32⟩
  | .hbm, ⟨3, _⟩ => ⟨S65536x2, .f32⟩
  | .hbm, ⟨4, _⟩ => ⟨S135168x1024, .bf16⟩
  | .hbm, ⟨5, _⟩ => ⟨S65536x1, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x1024, .bf16⟩
  | .hbm, ⟨16, _⟩ => ⟨S135168x1024, .bf16⟩
  | .hbm, ⟨17, _⟩ => ⟨S65536x1, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x1024, .bf16⟩
  | .hbm, ⟨28, _⟩ => ⟨S_, .f32⟩
  | .hbm, ⟨29, _⟩ => ⟨S65536x2, .f32⟩
  | .hbm, ⟨30, _⟩ => ⟨S_, .f32⟩
  | .hbm, ⟨31, _⟩ => ⟨S65536x124, .f32⟩
  | .hbm, ⟨32, _⟩ => ⟨S65536x128, .f32⟩
  | .hbm, ⟨33, _⟩ => ⟨S65536x1024, .f32⟩
  | .hbm, ⟨34, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16x4096x1024 : Shape := ⟨3, ![16, 4096, 1024]⟩
abbrev S135168x1024 : Shape := ⟨2, ![135168, 1024]⟩
abbrev S65536x2 : Shape := ⟨2, ![65536, 2]⟩
abbrev S131072 : Shape := ⟨1, ![131072]⟩
abbrev S_ : Shape := ⟨0, ![]⟩
abbrev S131072x1 : Shape := ⟨2, ![131072, 1]⟩
abbrev S131072x1024 : Shape := ⟨2, ![131072, 1024]⟩
abbrev S65536 : Shape := ⟨1, ![65536]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S135168x1024, .f32⟩
  | .hbm, ⟨2, _⟩ => ⟨S65536x2, .i32⟩
  | .hbm, ⟨3, _⟩ => ⟨S65536x2, .f32⟩
  | .hbm, ⟨4, _⟩ => ⟨S131072, .i32⟩
  | .hbm, ⟨5, _⟩ => ⟨S_, .i32⟩
  | .hbm, ⟨6, _⟩ => ⟨S131072, .i32⟩
  | .hbm, ⟨7, _⟩ => ⟨S131072, .i1⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072x1, .i32⟩
  | .hbm, ⟨13, _⟩ => ⟨S131072x1024, .f32⟩
  | .hbm, ⟨14, _⟩ => ⟨S131072, .f32⟩
  | .hbm, ⟨15, _⟩ => ⟨S131072x1, .f32⟩
  | .hbm, ⟨16, _⟩ => ⟨S131072x1024, .f32⟩
  | .hbm, ⟨17, _⟩ => ⟨S131072x1024, .f32⟩
  | .hbm, ⟨18, _⟩ => ⟨S65536, .i32⟩
  | .hbm, ⟨19, _⟩ => ⟨S65536x2, .i32⟩
  | .hbm, ⟨20, _⟩ => ⟨S131072, .i32⟩
  | .hbm, ⟨21, _⟩ => ⟨S_, .f32⟩
  | .hbm, ⟨22, _⟩ => ⟨S65536x1024, .f32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S65536x1024, .f32⟩
  | .hbm, ⟨32, _⟩ => ⟨S16x4096x1024, .f32⟩
  | .hbm, ⟨33, _⟩ => ⟨S16x4096x1024, .f32⟩
  | .hbm, ⟨34, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel7.lean ====
abbrev S8x2048x1024 : Shape := ⟨3, ![8, 2048, 1024]⟩
abbrev S36864x1024 : Shape := ⟨2, ![36864, 1024]⟩
abbrev S16384x2 : Shape := ⟨2, ![16384, 2]⟩
abbrev S16384x1 : Shape := ⟨2, ![16384, 1]⟩
abbrev S16384 : Shape := ⟨1, ![16384]⟩
abbrev S_ : Shape := ⟨0, ![]⟩
abbrev S16384x1024 : Shape := ⟨2, ![16384, 1024]⟩
abbrev S16384x124 : Shape := ⟨2, ![16384, 124]⟩
abbrev S16384x128 : Shape := ⟨2, ![16384, 128]⟩
abbrev S512x1024 : Shape := ⟨2, ![512, 1024]⟩
abbrev S512x128 : Shape := ⟨2, ![512, 128]⟩
abbrev S512x1 : Shape := ⟨2, ![512, 1]⟩

abbrev nBuf : Space → Nat
  | .hbm => 35
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S36864x1024, .f32⟩
  | .hbm, ⟨2, _⟩ => ⟨S16384x2, .i32⟩
  | .hbm, ⟨3, _⟩ => ⟨S16384x2, .f32⟩
  | .hbm, ⟨4, _⟩ => ⟨S36864x1024, .bf16⟩
  | .hbm, ⟨5, _⟩ => ⟨S16384x1, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x1024, .bf16⟩
  | .hbm, ⟨16, _⟩ => ⟨S36864x1024, .bf16⟩
  | .hbm, ⟨17, _⟩ => ⟨S16384x1, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x1024, .bf16⟩
  | .hbm, ⟨28, _⟩ => ⟨S_, .f32⟩
  | .hbm, ⟨29, _⟩ => ⟨S16384x2, .f32⟩
  | .hbm, ⟨30, _⟩ => ⟨S_, .f32⟩
  | .hbm, ⟨31, _⟩ => ⟨S16384x124, .f32⟩
  | .hbm, ⟨32, _⟩ => ⟨S16384x128, .f32⟩
  | .hbm, ⟨33, _⟩ => ⟨S16384x1024, .f32⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8x2048x1024 : Shape := ⟨3, ![8, 2048, 1024]⟩
abbrev S36864x1024 : Shape := ⟨2, ![36864, 1024]⟩
abbrev S16384x2 : Shape := ⟨2, ![16384, 2]⟩
abbrev S32768 : Shape := ⟨1, ![32768]⟩
abbrev S_ : Shape := ⟨0, ![]⟩
abbrev S32768x1 : Shape := ⟨2, ![32768, 1]⟩
abbrev S32768x1024 : Shape := ⟨2, ![32768, 1024]⟩
abbrev S16384 : Shape := ⟨1, ![16384]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S36864x1024, .f32⟩
  | .hbm, ⟨2, _⟩ => ⟨S16384x2, .i32⟩
  | .hbm, ⟨3, _⟩ => ⟨S16384x2, .f32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x1024, .f32⟩
  | .hbm, ⟨14, _⟩ => ⟨S32768, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S16384, .i32⟩
  | .hbm, ⟨19, _⟩ => ⟨S16384x2, .i32⟩
  | .hbm, ⟨20, _⟩ => ⟨S32768, .i32⟩
  | .hbm, ⟨21, _⟩ => ⟨S_, .f32⟩
  | .hbm, ⟨22, _⟩ => ⟨S16384x1024, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S16384x1024, .f32⟩
  | .hbm, ⟨32, _⟩ => ⟨S8x2048x1024, .f32⟩
  | .hbm, ⟨33, _⟩ => ⟨S8x2048x1024, .f32⟩
  | .hbm, ⟨34, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel8.lean ====
abbrev S16x4096x1024 : Shape := ⟨3, ![16, 4096, 1024]⟩
abbrev S1024x8 : Shape := ⟨2, ![1024, 8]⟩
abbrev S_ : Shape := ⟨0, ![]⟩
abbrev S1024x128 : Shape := ⟨2, ![1024, 128]⟩
abbrev S65536x1024 : Shape := ⟨2, ![65536, 1024]⟩
abbrev S65536x128 : Shape := ⟨2, ![65536, 128]⟩
abbrev S8x128 : Shape := ⟨2, ![8, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x128 : Shape := ⟨2, ![1, 128]⟩
abbrev S128 : Shape := ⟨1, ![128]⟩

abbrev nBuf : Space → Nat
  | .hbm => 10
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S1024x8, .f32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S1024x128, .bf16⟩
  | .hbm, ⟨6, _⟩ => ⟨S65536x1024, .f32⟩
  | .hbm, ⟨7, _⟩ => ⟨S65536x1024, .bf16⟩
  | .hbm, ⟨8, _⟩ => ⟨S65536x128, .f32⟩
  | .hbm, ⟨9, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | .local _ .vmem, ⟨5, _⟩ => ⟨S8x128, .f32⟩
  | .local _ .vmem, ⟨6, _⟩ => ⟨S8x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference8Ideal.lean ====
abbrev S16x4096x1024 : Shape := ⟨3, ![16, 4096, 1024]⟩
abbrev S1024x8 : Shape := ⟨2, ![1024, 8]⟩
abbrev S65536x1024 : Shape := ⟨2, ![65536, 1024]⟩
abbrev S65536x8 : Shape := ⟨2, ![65536, 8]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S131072 : Shape := ⟨1, ![131072]⟩
abbrev S131072x1 : Shape := ⟨2, ![131072, 1]⟩
abbrev S8 : Shape := ⟨1, ![8]⟩
abbrev S65536x122 : Shape := ⟨2, ![65536, 122]⟩
abbrev S65536x128 : Shape := ⟨2, ![65536, 128]⟩
abbrev S128 : Shape := ⟨1, ![128]⟩
abbrev S8x128 : Shape := ⟨2, ![8, 128]⟩

abbrev nBuf : Space → Nat
  | .hbm => 87
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x8, .f32⟩
  | .hbm, ⟨2, _⟩ => ⟨S65536x1024, .f32⟩
  | .hbm, ⟨3, _⟩ => ⟨S65536x8, .f32⟩
  | .hbm, ⟨4, _⟩ => ⟨S65536x2, .f32⟩
  | .hbm, ⟨5, _⟩ => ⟨S65536x2, .i32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S65536x1, .f32⟩
  | .hbm, ⟨12, _⟩ => ⟨S65536x2, .f32⟩
  | .hbm, ⟨13, _⟩ => ⟨S65536x2, .f32⟩
  | .hbm, ⟨14, _⟩ => ⟨S65536x2, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S65536x2, .f32⟩
  | .hbm, ⟨19, _⟩ => ⟨S65536x2, .f32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072, .i32⟩
  | .hbm, ⟨33, _⟩ => ⟨S_, .i32⟩
  | .hbm, ⟨34, _⟩ => ⟨S8, .i32⟩
  | .hbm, ⟨35, _⟩ => ⟨S_, .i32⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S_, .i32⟩
  | .hbm, ⟨40, _⟩ => ⟨S131072, .i32⟩
  | .hbm, ⟨41, _⟩ => ⟨S131072, .i1⟩
  | .hbm, ⟨42, _⟩ => ⟨S_, .i32⟩
  | .hbm, ⟨43, _⟩ => ⟨S131072, .i32⟩
  | .hbm, ⟨44, _⟩ => ⟨S131072, .i32⟩
  | .hbm, ⟨45, _⟩ => ⟨S131072, .i32⟩
  | .hbm, ⟨46, _⟩ => ⟨S131072x1, .i32⟩
  | .hbm, ⟨47, _⟩ => ⟨S_, .i32⟩
  | .hbm, ⟨48, _⟩ => ⟨S131072, .i32⟩
  | .hbm, ⟨49, _⟩ => ⟨S8, .i32⟩
  | .hbm, ⟨50, _⟩ => ⟨S_, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S_, .i32⟩
  | .hbm, ⟨58, _⟩ => ⟨S131072, .i32⟩
  | .hbm, ⟨59, _⟩ => ⟨S131072, .i1⟩
  | .hbm, ⟨60, _⟩ => ⟨S_, .i32⟩
  | .hbm, ⟨61, _⟩ => ⟨S131072, .i32⟩
  | .hbm, ⟨62, _⟩ => ⟨S131072, .i32⟩
  | .hbm, ⟨63, _⟩ => ⟨S131072, .i32⟩
  | .hbm, ⟨64, _⟩ => ⟨S131072x1, .i32⟩
  | .hbm, ⟨65, _⟩ => ⟨S131072, .i32⟩
  | .hbm, ⟨66, _⟩ => ⟨S131072, .i32⟩
  | .hbm, ⟨67, _⟩ => ⟨S_, .i32⟩
  | .hbm, ⟨68, _⟩ => ⟨S131072, .i32⟩
  | .hbm, ⟨69, _⟩ => ⟨S131072, .i1⟩
  | .hbm, ⟨70, _⟩ => ⟨S_, .i32⟩
  | .hbm, ⟨71, _⟩ => ⟨S131072, .i32⟩
  | .hbm, ⟨72, _⟩ => ⟨S131072, .i32⟩
  | .hbm, ⟨73, _⟩ => ⟨S131072, .i32⟩
  | .hbm, ⟨74, _⟩ => ⟨S131072x1, .i32⟩
  | .hbm, ⟨75, _⟩ => ⟨S131072, .i32⟩
  | .hbm, ⟨76, _⟩ => ⟨S65536x2, .i32⟩
  | .hbm, ⟨77, _⟩ => ⟨S65536x2, .f32⟩
  | .hbm, ⟨78, _⟩ => ⟨S65536x2, .f32⟩
  | .hbm, ⟨79, _⟩ => ⟨S_, .f32⟩
  | .hbm, ⟨80, _⟩ => ⟨S65536x122, .f32⟩
  | .hbm, ⟨81, _⟩ => ⟨S65536x128, .f32⟩
  | .hbm, ⟨82, _⟩ => ⟨S8, .f32⟩
  | .hbm, ⟨83, _⟩ => ⟨S_, .i32⟩
  | .hbm, ⟨84, _⟩ => ⟨S_, .f32⟩
  | .hbm, ⟨85, _⟩ => ⟨S128, .f32⟩
  | .hbm, ⟨86, _⟩ => ⟨S8x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1_0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_call2_call0_c : Ref sig .tc := ⟨.hbm, 50, rfl⟩
abbrev main_call2_call0_v0 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_call3_v0 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Proof.Inproj.lean ====
/-
  The combined input projection with its RMS norm: the array that the kernel leaves is the array that the reference leaves,
  element by element, over the extended reals. Of the 352 grid points, 11 in a row share one tile of 2048 rows: the first of
  them leaves the normalised rows in a scratch buffer, which the other ten read.
-/
module

public import proofs.«01_k».proof.Proof.Gen.Kernel2Ideal.Value
public import proofs.«01_k».proof.Proof.Gen.Reference2Ideal.Run
public import Idealize.ShloMosaic.Lib.Pointwise

@[expose] public section

set_option maxRecDepth 16384

noncomputable section

namespace Cert.Proof.Inproj

open Cert.Kernel2Ideal Cert.Kernel2Ideal.Gen Cert.Kernel2Ideal.Value Idealize.ShloMosaic Idealize.ShloMosaic.TcCoe Idealize.SL.Sem
open scoped BigOperators

theorem hz : (![0, 0] : Fin 2 → Nat) = fun _ => 0 := funext fun a => by fin_cases a <;> rfl

section Run
variable {F : FTy → Type} [FloatOps F]

/-- What a grid point leaves in its block of the result: column `128 p + l` of the product at `(p, r, l)`. -/
def oblk (h : Vec F S2048x1024 .bf16) (w : Vec F S1024x1024 .bf16) : Vec F S8x2048x128 .bf16 := fun y =>
  truncf .bf16 (k0_pay6 h w) bitsLt_bf16_f32
    (ix2 (y 1) ⟨128 * (y 0).val + (y 2).val, by have h0 : (y 0).val < 8 := (y 0).isLt; have h2 : (y 2).val < 128 := (y 2).isLt; omega⟩)

/-- Each of the eight stores is its 128 columns of the product. -/
theorem col0 (h : Vec F S2048x1024 .bf16) (w : Vec F S1024x1024 .bf16) (x : S1x2048x128.Idx) :
    k0_pay7 h w x = oblk h w ((Rect.unit (s := S8x2048x128) ![0, 0, 0] S1x2048x128.size inb_S8x2048x128_S1x2048x128_0_0_0).emb x) := by
  idx_vars x
  unfold k0_pay7 oblk
  dsimp only
  pointwise
  refine congrArg _ (congrArg (k0_pay6 h w) (congrArg₂ ix2 (Fin.ext ?_) (Fin.ext ?_)))
  · show x1.val = 0 + 1 * x1.val; omega
  · show x2.val = 128 * (0 + 1 * x0.val) + (0 + 1 * x2.val); omega
theorem col1 (h : Vec F S2048x1024 .bf16) (w : Vec F S1024x1024 .bf16) (x : S1x2048x128.Idx) :
    k0_pay8 h w x = oblk h w ((Rect.unit (s := S8x2048x128) ![1, 0, 0] S1x2048x128.size inb_S8x2048x128_S1x2048x128_1_0_0).emb x) := by
  idx_vars x
  unfold k0_pay8 oblk
  dsimp only
  pointwise
  refine congrArg _ (congrArg (k0_pay6 h w) (congrArg₂ ix2 (Fin.ext ?_) (Fin.ext ?_)))
  · show x1.val = 0 + 1 * x1.val; omega
  · show 128 + x2.val = 128 * (1 + 1 * x0.val) + (0 + 1 * x2.val); omega
theorem col2 (h : Vec F S2048x1024 .bf16) (w : Vec F S1024x1024 .bf16) (x : S1x2048x128.Idx) :
    k0_pay9 h w x = oblk h w ((Rect.unit (s := S8x2048x128) ![2, 0, 0] S1x2048x128.size inb_S8x2048x128_S1x2048x128_2_0_0).emb x) := by
  idx_vars x
  unfold k0_pay9 oblk
  dsimp only
  pointwise
  refine congrArg _ (congrArg (k0_pay6 h w) (congrArg₂ ix2 (Fin.ext ?_) (Fin.ext ?_)))
  · show x1.val = 0 + 1 * x1.val; omega
  · show 256 + x2.val = 128 * (2 + 1 * x0.val) + (0 + 1 * x2.val); omega
theorem col3 (h : Vec F S2048x1024 .bf16) (w : Vec F S1024x1024 .bf16) (x : S1x2048x128.Idx) :
    k0_pay10 h w x = oblk h w ((Rect.unit (s := S8x2048x128) ![3, 0, 0] S1x2048x128.size inb_S8x2048x128_S1x2048x128_3_0_0).emb x) := by
  idx_vars x
  unfold k0_pay10 oblk
  dsimp only
  pointwise
  refine congrArg _ (congrArg (k0_pay6 h w) (congrArg₂ ix2 (Fin.ext ?_) (Fin.ext ?_)))
  · show x1.val = 0 + 1 * x1.val; omega
  · show 384 + x2.val = 128 * (3 + 1 * x0.val) + (0 + 1 * x2.val); omega
theorem col4 (h : Vec F S2048x1024 .bf16) (w : Vec F S1024x1024 .bf16) (x : S1x2048x128.Idx) :
    k0_pay1 (k0_pay11 h w) x = oblk h w ((Rect.unit (s := S8x2048x128) ![4, 0, 0] S1x2048x128.size inb_S8x2048x128_S1x2048x128_4_0_0).emb x) := by
  idx_vars x
  unfold k0_pay1 k0_pay11 oblk
  dsimp only
  pointwise
  refine congrArg _ (congrArg (k0_pay6 h w) (congrArg₂ ix2 (Fin.ext ?_) (Fin.ext ?_)))
  · show x1.val = 0 + 1 * x1.val; omega
  · show 512 + x2.val = 128 * (4 + 1 * x0.val) + (0 + 1 * x2.val); omega
theorem col5 (h : Vec F S2048x1024 .bf16) (w : Vec F S1024x1024 .bf16) (x : S1x2048x128.Idx) :
    k0_pay2 (k0_pay6 h w) x = oblk h w ((Rect.unit (s := S8x2048x128) ![5, 0, 0] S1x2048x128.size inb_S8x2048x128_S1x2048x128_5_0_0).emb x) := by
  idx_vars x
  unfold k0_pay2 oblk
  dsimp only
  pointwise
  refine congrArg _ (congrArg (k0_pay6 h w) (congrArg₂ ix2 (Fin.ext ?_) (Fin.ext ?_)))
  · show x1.val = 0 + 1 * x1.val; omega
  · show 640 + x2.val = 128 * (5 + 1 * x0.val) + (0 + 1 * x2.val); omega
theorem col6 (h : Vec F S2048x1024 .bf16) (w : Vec F S1024x1024 .bf16) (x : S1x2048x128.Idx) :
    k0_pay3 (k0_pay6 h w) x = oblk h w ((Rect.unit (s := S8x2048x128) ![6, 0, 0] S1x2048x128.size inb_S8x2048x128_S1x2048x128_6_0_0).emb x) := by
  idx_vars x
  unfold k0_pay3 oblk
  dsimp only
  pointwise
  refine congrArg _ (congrArg (k0_pay6 h w) (congrArg₂ ix2 (Fin.ext ?_) (Fin.ext ?_)))
  · show x1.val = 0 + 1 * x1.val; omega
  · show 768 + x2.val = 128 * (6 + 1 * x0.val) + (0 + 1 * x2.val); omega
theorem col7 (h : Vec F S2048x1024 .bf16) (w : Vec F S1024x1024 .bf16) (x : S1x2048x128.Idx) :
    k0_pay4 (k0_pay6 h w) x = oblk h w ((Rect.unit (s := S8x2048x128) ![7, 0, 0] S1x2048x128.size inb_S8x2048x128_S1x2048x128_7_0_0).emb x) := by
  idx_vars x
  unfold k0_pay4 oblk
  dsimp only
  pointwise
  refine congrArg _ (congrArg (k0_pay6 h w) (congrArg₂ ix2 (Fin.ext ?_) (Fin.ext ?_)))
  · show x1.val = 0 + 1 * x1.val; omega
  · show 896 + x2.val = 128 * (7 + 1 * x0.val) + (0 + 1 * x2.val); omega

theorem sout_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S8x2048x128 .bf16) (harg5 : arg5.IsWhole) (arg6 : Memref sig .tc .vmem S2048x1024 .bf16) (harg6 : arg6.IsWhole) (hc0 : cond0_0 i)
    (x0 : Vec F S2048x1024 .f32) (x1 : Vec F S1x1024 .f32) (x2 : Vec F S1024x1024 .bf16) : sout0_A_0 c i arg2 harg2 arg3 harg3 arg4 harg4 arg5 harg5 arg6 harg6 hc0 x0 x1 x2 = k0_pay5 x0 x1 := by
  unfold sout0_A_0
  rw [View.read_writes_junk_eq_canon]
  unfold kernelRun0_A
  dsimp only
  unfold kernelRun0_A.sl.HS0_1
  rw [View.canon_unit_zero hz, View.readAt_eq_ld, View.readAt_eq_ld, harg2.read_unread, harg3.read_unread, View.ld_unit_zero hz, View.ld_unit_zero hz]

theorem out_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S8x2048x128 .bf16) (harg5 : arg5.IsWhole) (arg6 : Memref sig .tc .vmem S2048x1024 .bf16) (harg6 : arg6.IsWhole) (hc0 : cond0_0 i)
    (x0 : Vec F S2048x1024 .f32) (x1 : Vec F S1x1024 .f32) (x2 : Vec F S1024x1024 .bf16) : out0_A_3 c i arg2 harg2 arg3 harg3 arg4 harg4 arg5 harg5 arg6 harg6 hc0 x0 x1 x2 = oblk (k0_pay5 x0 x1) x2 := by
  unfold out0_A_3
  rw [View.read_writes_junk_eq_canon]
  funext y
  refine View.canon_apply_of_pieces (oblk (k0_pay5 x0 x1) x2) _ ?_ y (cover0_A_3 c i arg2 harg2 arg3 harg3 arg4 harg4 arg5 harg5 arg6 harg6 hc0 x0 x1 x2 y)
  unfold kernelRun0_A
  dsimp only
  unfold kernelRun0_A.sl.r_1 kernelRun0_A.sl.r kernelRun0_A.sl.v3 kernelRun0_A.sl.HS0_1
  rw [View.readCov_cons_toLoadRect, View.readAt_eq_ld, View.readAt_eq_ld, View.readAt_eq_ld, harg2.read_unread, harg3.read_unread, harg4.read_unread,
    View.ld_unit_zero hz, View.ld_unit_zero hz, View.ld_unit_zero hz]
  simp only [List.forall_mem_cons]
  exact ⟨col7 _ _, col6 _ _, col5 _ _, col4 _ _, col3 _ _, col2 _ _, col1 _ _, col0 _ _, by simp⟩

theorem out_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S8x2048x128 .bf16) (harg5 : arg5.IsWhole) (arg6 : Memref sig .tc .vmem S2048x1024 .bf16) (harg6 : arg6.IsWhole) (hc0 : ¬cond0_0 i)
    (x0 : Vec F S2048x1024 .f32) (x1 : Vec F S1x1024 .f32) (x2 : Vec F S1024x1024 .bf16) (xs0 : Vec F S2048x1024 .bf16) : out0_B_3 c i arg2 harg2 arg3 harg3 arg4 harg4 arg5 harg5 arg6 harg6 hc0 x0 x1 x2 xs0 = oblk xs0 x2 := by
  unfold out0_B_3
  rw [View.read_writes_junk_eq_canon]
  funext y
  refine View.canon_apply_of_pieces (oblk xs0 x2) _ ?_ y (cover0_B_3 c i arg2 harg2 arg3 harg3 arg4 harg4 arg5 harg5 arg6 harg6 hc0 x0 x1 x2 xs0 y)
  unfold kernelRun0_B
  dsimp only
  unfold kernelRun0_B.sl.r_1 kernelRun0_B.sl.r
  rw [View.readAt_eq_ld, View.readAt_eq_ld, harg4.read_unread, harg6.read_unread, View.ld_unit_zero hz, View.ld_unit_zero hz]
  simp only [List.forall_mem_cons]
  exact ⟨col7 _ _, col6 _ _, col5 _ _, col4 _ _, col3 _ _, col2 _ _, col1 _ _, col0 _ _, by simp⟩

theorem sout_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S8x2048x128 .bf16) (harg5 : arg5.IsWhole) (arg6 : Memref sig .tc .vmem S2048x1024 .bf16) (harg6 : arg6.IsWhole) (hc0 : ¬cond0_0 i)
    (x0 : Vec F S2048x1024 .f32) (x1 : Vec F S1x1024 .f32) (x2 : Vec F S1024x1024 .bf16) (xs0 : Vec F S2048x1024 .bf16) :
    sout0_B_0 c i arg2 harg2 arg3 harg3 arg4 harg4 arg5 harg5 arg6 harg6 hc0 x0 x1 x2 xs0 = xs0 := rfl

variable (m : (ℓ : Loc nD τ sig) → Buf (Elt F) ℓ)

/-- The host's operations before the call. -/
theorem V0 (c : Dev nD) : V m c main_v0 = shapeCast S65536x1024 (m ((c : Thread nD τ).loc main_arg0)) shapeCasts_S16x4096x1024_S65536x1024 := by
  unfold V hostOps0
  after_results <;> rfl
theorem V1 (c : Dev nD) : V m c main_v1 = broadcastInDim S1x1024 ![1] bcast_S1024_S1x1024_1 (m ((c : Thread nD τ).loc main_arg1)) := by
  unfold V hostOps0
  after_results <;> rfl
theorem V2 (c : Dev nD) : V m c main_v2 = truncf .bf16 (m ((c : Thread nD τ).loc main_arg2)) bitsLt_bf16_f32 := by
  unfold V hostOps0
  after_results <;> rfl

/-- The block indices: point `t` is at row tile `t / 11` and column tile `t % 11`. -/
theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 3) = t.val % 11 ∧ win0_3.index t (1 : Fin 3) = t.val / 11 ∧ win0_3.index t (2 : Fin 3) = 0 :=
  (by decide +kernel : ∀ t : Fin grid0.N, _)

/-- Row `p` of row tile `q` in the flattened array, and column `l` of column tile `n`. -/
def row (q : Nat) (hq : q < 32) (p : Fin 2048) : Fin 65536 := ⟨2048 * q + p.val, by omega⟩
def col (n : Nat) (hn : n < 11) (l : Fin 1024) : Fin 11264 := ⟨1024 * n + l.val, by omega⟩
def blk (n : Nat) (hn : n < 11) (p : Fin 8) : Fin 88 := ⟨8 * n + p.val, by omega⟩
theorem hq (t : Fin cfg0.N) : t.val / 11 < 32 := by have := t.isLt; have : cfg0.N = 352 := rfl; omega
theorem hn (t : Fin cfg0.N) : t.val % 11 < 11 := Nat.mod_lt _ (by decide)

theorem emb0 (t : Fin cfg0.N) (j : S2048x1024.Idx) : ((cfg0.win 0).blk t).view.emb j = ix2 (row (t.val / 11) (hq t) (j 0)) (j 1) := by
  obtain ⟨e0, e1⟩ := idx0 t
  funext a; apply Fin.ext
  match a with
  | ⟨0, _⟩ => show win0_0.index t (0 : Fin 2) * 2048 + 1 * (j 0).val = 2048 * (t.val / 11) + (j 0).val; omega
  | ⟨1, _⟩ => show win0_0.index t (1 : Fin 2) * 1024 + 1 * (j 1).val = (j 1).val; omega
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (j : S1024x1024.Idx) : ((cfg0.win 2).blk t).view.emb j = ix2 (j 0) (col (t.val % 11) (hn t) (j 1)) := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 1024 + 1 * (j 1).val = 1024 * (t.val % 11) + (j 1).val; omega
theorem emb3 (t : Fin cfg0.N) (j : S8x2048x128.Idx) : ((cfg0.win 3).blk t).view.emb j = ix3 (blk (t.val % 11) (hn t) (j 0)) (row (t.val / 11) (hq t) (j 1)) (j 2) := by
  obtain ⟨e0, e1, e2⟩ := idx3 t
  funext a; apply Fin.ext
  match a with
  | ⟨0, _⟩ => show win0_3.index t (0 : Fin 3) * 8 + 1 * (j 0).val = 8 * (t.val % 11) + (j 0).val; omega
  | ⟨1, _⟩ => show win0_3.index t (1 : Fin 3) * 2048 + 1 * (j 1).val = 2048 * (t.val / 11) + (j 1).val; omega
  | ⟨2, _⟩ => show win0_3.index t (2 : Fin 3) * 128 + 1 * (j 2).val = (j 2).val; omega

/-- Row tile `q` of an array, and column tile `n` of the weights. -/
def rows (x : Vec F S65536x1024 .f32) (q : Nat) (hq : q < 32) : Vec F S2048x1024 .f32 := fun j => x (ix2 (row q hq (j 0)) (j 1))
def cols (w : Vec F S1024x11264 .bf16) (n : Nat) (hn : n < 11) : Vec F S1024x1024 .bf16 := fun j => w (ix2 (j 0) (col n hn (j 1)))

theorem iblk0 (c : Dev nD) (t : Fin cfg0.N) : iblk m c 0 t = rows (V m c main_v0) (t.val / 11) (hq t) := by
  funext j; show V m c main_v0 (((cfg0.win 0).blk t).view.emb j) = _; rw [emb0]; rfl
theorem iblk1 (c : Dev nD) (t : Fin cfg0.N) : iblk m c 1 t = V m c main_v1 := by
  funext j; show V m c main_v1 (((cfg0.win 1).blk t).view.emb j) = _; rw [emb1]
theorem iblk2 (c : Dev nD) (t : Fin cfg0.N) : iblk m c 2 t = cols (V m c main_v2) (t.val % 11) (hn t) := by
  funext j; show V m c main_v2 (((cfg0.win 2).blk t).view.emb j) = _; rw [emb2]; rfl

/-- The normalised rows of row tile `q`, as the scratch holds them. -/
def H (c : Dev nD) (q : Nat) (hq : q < 32) : Vec F S2048x1024 .bf16 := k0_pay5 (rows (V m c main_v0) q hq) (V m c main_v1)

/-- After point `t` the scratch holds the normalised rows of its row tile, and the block is those rows' product with the point's columns. -/
theorem outs_eq (c : Dev nD) : ∀ (n : Nat) (t : Fin cfg0.N), t.val = n →
    outsAt0 m c t.val t.isLt = (oblk (H m c (t.val / 11) (hq t)) (iblk m c 2 t), H m c (t.val / 11) (hq t)) := by
  intro n
  induction n with
  | zero =>
    intro t ht
    rw [outsAt0_A m c t (by omega), out_A, sout_A, iblk0, iblk1]
    rfl
  | succ n ih =>
    intro t ht
    by_cases h0 : t.val % 11 = 0
    · rw [outsAt0_A m c t h0, out_A, sout_A, iblk0, iblk1]
      rfl
    · have hp := ih ⟨t.val - 1, Nat.lt_of_le_of_lt (Nat.sub_le _ _) t.isLt⟩ (by show t.val - 1 = n; omega)
      have e : ∀ (q : Nat) (h : q < 32), q = t.val / 11 → H m c q h = H m c (t.val / 11) (hq t) := fun q h e => by subst e; rfl
      rw [outsAt0_B m c t h0, out_B, sout_B]
      have hp2 := congrArg Prod.snd hp
      rw [e _ _ (by show (t.val - 1) / 11 = t.val / 11; omega)] at hp2
      exact congrArg₂ Prod.mk (congrArg (fun z => oblk z (iblk m c 2 t)) hp2) hp2

theorem covered3 (i : S88x65536x128.Idx) : ∃ t : Fin cfg0.N, (cfg0.win 3).flush t = true ∧ i ∈ ((cfg0.win 3).blk t).view.set :=
  (covered_iff3 i).2 ⟨Nat.zero_le _, (i 0).isLt, Nat.zero_le _, (i 1).isLt, Nat.zero_le _, (i 2).isLt⟩

end Run

section Ideal

/-- The reference's result, as its run states it. -/
def G (a0 : FVec Ideal S16x4096x1024 .f32) (a1 : FVec Ideal S1024 .f32) (a2 : FVec Ideal S1024x11264 .f32) : FVec Ideal S88x65536x128 .bf16 :=
  truncf .bf16 (transpose S88x65536x128 [1, 0, 2] (shapeCast Cert.Reference2Ideal.S65536x88x128 (Host.dotGeneral Cert.Reference2Ideal.dot_S16x4096x1024_S1024x11264_S16x4096x11264_2_0_01_1_n_n none (mulf (mulf a0 (broadcastInDim Cert.Reference2Ideal.S16x4096x1024 ![0, 1, 2] Cert.Reference2Ideal.Gen.bcast_S16x4096x1_S16x4096x1024_0_1_2 (Host.rsqrt (addf (Host.divf (broadcastInDim Cert.Reference2Ideal.S16x4096x1 ![0, 1] Cert.Reference2Ideal.Gen.bcast_S16x4096_S16x4096x1_0_1 (Host.reduceAdd (mulf a0 a0) (constant Cert.Reference2Ideal.S_ .f32 0x00000000#32) Cert.Reference2Ideal.Gen.reducesTo_S16x4096x1024_S16x4096_d2 Cert.Reference2Ideal.Gen.h_S_)) (broadcastInDim Cert.Reference2Ideal.S16x4096x1 ![] Cert.Reference2Ideal.Gen.bcast_S_S16x4096x1 (constant Cert.Reference2Ideal.S_ .f32 0x44800000#32))) (broadcastInDim Cert.Reference2Ideal.S16x4096x1 ![] Cert.Reference2Ideal.Gen.bcast_S_S16x4096x1 (constant Cert.Reference2Ideal.S_ .f32 0x358637BD#32)))))) (broadcastInDim Cert.Reference2Ideal.S16x4096x1024 ![0, 1, 2] Cert.Reference2Ideal.Gen.bcast_S1x1x1024_S16x4096x1024_0_1_2 (broadcastInDim Cert.Reference2Ideal.S1x1x1024 ![2] Cert.Reference2Ideal.Gen.bcast_S1024_S1x1x1024_2 a1))) a2) Cert.Reference2Ideal.Gen.shapeCasts_S16x4096x11264_S65536x88x128) Cert.Reference2Ideal.Gen.transposes_S65536x88x128_S88x65536x128_1_0_2) Cert.Reference2Ideal.Gen.bitsLt_bf16_f32

theorem block_eq (a0 : FVec Ideal S16x4096x1024 .f32) (a1 : FVec Ideal S1024 .f32) (a2 : FVec Ideal S1024x11264 .f32) (q : Nat) (hq : q < 32) (n : Nat) (hn : n < 11) (j : S8x2048x128.Idx) :
    oblk (k0_pay5 (rows (shapeCast S65536x1024 a0 shapeCasts_S16x4096x1024_S65536x1024) q hq) (broadcastInDim S1x1024 ![1] bcast_S1024_S1x1024_1 a1))
      (cols (truncf .bf16 a2 bitsLt_bf16_f32) n hn) j
    = G a0 a1 a2 (ix3 (blk n hn (j 0)) (row q hq (j 1)) (j 2)) := by
  idx_vars j
  unfold G oblk k0_pay6 k0_pay5 rows cols
  pointwise
  refine Finset.sum_congr rfl fun x _ => congrArg _ (congrArg a2 (congrArg (ix2 x) (Fin.ext ?_)))
  show 1024 * n + (128 * j0.val + j2.val) = (8 * n + j0.val) * 128 + j2.val
  omega

/-- What point `t` writes back is its block of the reference's result. -/
theorem flushed3_G (m : (ℓ : Loc nD τ sig) → Buf (Elt Ideal) ℓ) (c : Dev nD) (t : Fin cfg0.N) :
    (dats m 0 c).flushed 3 t = ((cfg0.win 3).blk t).view.read (Elt Ideal) (G (m ((c : Thread nD τ).loc main_arg0))
      (m ((c : Thread nD τ).loc main_arg1)) (m ((c : Thread nD τ).loc main_arg2))) := by
  rw [flushed3, outs_eq m c t.val t rfl, iblk2, H, V0, V1, V2]
  funext j
  show _ = G _ _ _ (((cfg0.win 3).blk t).view.emb j)
  rw [emb3]
  exact block_eq _ _ _ _ (hq t) _ (hn t) j

/-- The kernel's run, with the array it leaves at the reference's result of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = G (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed3_G m c t) covered3), (h c).2⟩) (run_blocks m ρ)

end Ideal

end Cert.Proof.Inproj

end
-- ==== Proof.Ffn.lean ====
/-
  The dense SwiGLU with its residual addition: the array that the kernel leaves is the array that the reference leaves,
  element by element, over the extended reals. Each of the 128 grid points computes 512 whole rows of the result.
-/
module

public import proofs.«01_k».proof.Proof.Gen.Kernel3Ideal.Value
public import proofs.«01_k».proof.Proof.Gen.Reference3Ideal.Run
public import Idealize.ShloMosaic.Lib.Pointwise

@[expose] public section

set_option maxRecDepth 16384

noncomputable section

namespace Cert.Proof.Ffn

open Cert.Kernel3Ideal Cert.Kernel3Ideal.Gen Cert.Kernel3Ideal.Value Idealize.ShloMosaic Idealize.ShloMosaic.TcCoe Idealize.SL.Sem
open scoped BigOperators

theorem hz : (![0, 0] : Fin 2 → Nat) = fun _ => 0 := funext fun a => by fin_cases a <;> rfl

section Run
variable {F : FTy → Type} [FloatOps F]

/-- What one grid point leaves in its block of the result: the residual rows plus the SwiGLU of its rows. -/
theorem out_eq (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (hc2 : cond0_2 i)
    (x0 : Vec F S512x1024 .bf16) (x1 : Vec F S512x1024 .f32) (x2 : Vec F S1024x2816 .bf16) (x3 : Vec F S1024x2816 .bf16) (x4 : Vec F S2816x1024 .bf16) :
    out0_A_5 c i arg2 harg2 arg3 harg3 arg4 harg4 arg5 harg5 arg6 harg6 arg7 harg7 arg8 harg8 hc0 hc1 hc2 x0 x1 x2 x3 x4
      = k0_pay2 x0 x2 x3 x4 x1 := by
  unfold out0_A_5
  rw [View.read_writes_junk_eq_canon]
  unfold kernelRun0_A
  dsimp only
  rw [View.canon_unit_zero hz]
  unfold kernelRun0_A.sl.v24
  unfold kernelRun0_A.sl.HS0_1
  rw [View.readCov_cons_toLoadRect]
  rw [View.readAt_eq_ld, View.readAt_eq_ld, View.readAt_eq_ld, View.readAt_eq_ld, View.readAt_eq_ld, harg2.read_unread, harg3.read_unread,
    harg4.read_unread, harg5.read_unread, harg6.read_unread, View.ld_unit_zero hz, View.ld_unit_zero hz, View.ld_unit_zero hz, View.ld_unit_zero hz,
    View.ld_unit_zero hz]

variable (m : (ℓ : Loc nD τ sig) → Buf (Elt F) ℓ)

/-- The host's operations before the call: the rows flattened, and the four operands of the products narrowed. -/
theorem V1 (c : Dev nD) : V m c main_v1 = truncf .bf16 (shapeCast S65536x1024 (m ((c : Thread nD τ).loc main_arg0)) shapeCasts_S16x4096x1024_S65536x1024) bitsLt_bf16_f32 := by
  unfold V hostOps0
  after_results <;> rfl
theorem V2 (c : Dev nD) : V m c main_v2 = shapeCast S65536x1024 (m ((c : Thread nD τ).loc main_arg1)) shapeCasts_S16x4096x1024_S65536x1024 := by
  unfold V hostOps0
  after_results <;> rfl
theorem V3 (c : Dev nD) : V m c main_v3 = truncf .bf16 (m ((c : Thread nD τ).loc main_arg2)) bitsLt_bf16_f32 := by
  unfold V hostOps0
  after_results <;> rfl
theorem V4 (c : Dev nD) : V m c main_v4 = truncf .bf16 (m ((c : Thread nD τ).loc main_arg3)) bitsLt_bf16_f32 := by
  unfold V hostOps0
  after_results <;> rfl
theorem V5 (c : Dev nD) : V m c main_v5 = truncf .bf16 (m ((c : Thread nD τ).loc main_arg4)) bitsLt_bf16_f32 := by
  unfold V hostOps0
  after_results <;> rfl

/-- The block indices: point `t` has rows `512 t` onward of the two inputs and of the result, and the whole of each weight. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

/-- Row `p` of point `t`'s 512 rows, in the flattened array. -/
def row (t : Fin cfg0.N) (p : Fin 512) : Fin 65536 := ⟨512 * t.val + p.val, by have := t.isLt; have : cfg0.N = 128 := rfl; omega⟩

theorem emb0 (t : Fin cfg0.N) (j : S512x1024.Idx) : ((cfg0.win 0).blk t).view.emb j = ix2 (row t (j 0)) (j 1) := by
  obtain ⟨e0, e1⟩ := idx0 t
  funext a; apply Fin.ext
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega
theorem emb1 (t : Fin cfg0.N) (j : S512x1024.Idx) : ((cfg0.win 1).blk t).view.emb j = ix2 (row t (j 0)) (j 1) := by
  obtain ⟨e0, e1⟩ := idx1 t
  funext a; apply Fin.ext
  match a with
  | ⟨0, _⟩ => show win0_1.index t (0 : Fin 2) * 512 + 1 * (j 0).val = 512 * t.val + (j 0).val; omega
  | ⟨1, _⟩ => show win0_1.index t (1 : Fin 2) * 1024 + 1 * (j 1).val = (j 1).val; omega
theorem emb5 (t : Fin cfg0.N) (j : S512x1024.Idx) : ((cfg0.win 5).blk t).view.emb j = ix2 (row t (j 0)) (j 1) := by
  obtain ⟨e0, e1⟩ := idx5 t
  funext a; apply Fin.ext
  match a with
  | ⟨0, _⟩ => show win0_5.index t (0 : Fin 2) * 512 + 1 * (j 0).val = 512 * t.val + (j 0).val; omega
  | ⟨1, _⟩ => show win0_5.index t (1 : Fin 2) * 1024 + 1 * (j 1).val = (j 1).val; omega
theorem emb2 (t : Fin cfg0.N) (j : S1024x2816.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 2816 + 1 * (j 1).val = (j 1).val; omega
theorem emb3 (t : Fin cfg0.N) (j : S1024x2816.Idx) : ((cfg0.win 3).blk t).view.emb j = j := by
  obtain ⟨e0, e1⟩ := idx3 t
  funext a; apply Fin.ext
  match a with
  | ⟨0, _⟩ => show win0_3.index t (0 : Fin 2) * 1024 + 1 * (j 0).val = (j 0).val; omega
  | ⟨1, _⟩ => show win0_3.index t (1 : Fin 2) * 2816 + 1 * (j 1).val = (j 1).val; omega
theorem emb4 (t : Fin cfg0.N) (j : S2816x1024.Idx) : ((cfg0.win 4).blk t).view.emb j = j := by
  obtain ⟨e0, e1⟩ := idx4 t
  funext a; apply Fin.ext
  match a with
  | ⟨0, _⟩ => show win0_4.index t (0 : Fin 2) * 2816 + 1 * (j 0).val = (j 0).val; omega
  | ⟨1, _⟩ => show win0_4.index t (1 : Fin 2) * 1024 + 1 * (j 1).val = (j 1).val; omega

/-- So a window's block, read where the region finds it. -/
theorem iblk0 (c : Dev nD) (t : Fin cfg0.N) : iblk m c 0 t = fun j : S512x1024.Idx => V m c main_v1 (ix2 (row t (j 0)) (j 1)) := by
  funext j; show V m c main_v1 (((cfg0.win 0).blk t).view.emb j) = _; rw [emb0]; rfl
theorem iblk1 (c : Dev nD) (t : Fin cfg0.N) : iblk m c 1 t = fun j : S512x1024.Idx => V m c main_v2 (ix2 (row t (j 0)) (j 1)) := by
  funext j; show V m c main_v2 (((cfg0.win 1).blk t).view.emb j) = _; rw [emb1]; rfl
theorem iblk2 (c : Dev nD) (t : Fin cfg0.N) : iblk m c 2 t = V m c main_v3 := by
  funext j; show V m c main_v3 (((cfg0.win 2).blk t).view.emb j) = _; rw [emb2]
theorem iblk3 (c : Dev nD) (t : Fin cfg0.N) : iblk m c 3 t = V m c main_v4 := by
  funext j; show V m c main_v4 (((cfg0.win 3).blk t).view.emb j) = _; rw [emb3]
theorem iblk4 (c : Dev nD) (t : Fin cfg0.N) : iblk m c 4 t = V m c main_v5 := by
  funext j; show V m c main_v5 (((cfg0.win 4).blk t).view.emb j) = _; rw [emb4]

theorem covered5 (i : S65536x1024.Idx) : ∃ t : Fin cfg0.N, (cfg0.win 5).flush t = true ∧ i ∈ ((cfg0.win 5).blk t).view.set := by
  obtain ⟨r, hr⟩ : ∃ r : Fin 65536, r = i 0 := ⟨_, rfl⟩
  have hN : cfg0.N = 128 := rfl
  obtain ⟨t, ht⟩ : ∃ t : Fin cfg0.N, t.val = r.val / 512 := ⟨⟨r.val / 512, by omega⟩, rfl⟩
  refine ⟨t, flush0_5 _, ?_⟩
  have h := ((cfg0.win 5).blk t).view.emb_mem_set (ix2 (⟨r.val % 512, Nat.mod_lt _ (by decide)⟩ : Fin 512) (i 1))
  rw [emb5] at h
  refine Eq.mpr (congrArg (· ∈ ((cfg0.win 5).blk t).view.set) (funext fun a => Fin.ext ?_)) h
  match a with
  | ⟨0, _⟩ => show (i 0).val = 512 * t.val + r.val % 512; rw [← hr]; omega
  | ⟨1, _⟩ => rfl

end Run

section Ideal
open Idealize.ShloMosaic (Ideal)

/-- The reference's result, as its run states it. -/
def G (a0 a1 : FVec Ideal S16x4096x1024 .f32) (a2 a3 : FVec Ideal S1024x2816 .f32) (a4 : FVec Ideal S2816x1024 .f32) : FVec Ideal S65536x1024 .f32 :=
  shapeCast S65536x1024 (addf a1 (Host.dotGeneral Cert.Reference3Ideal.dot_S16x4096x2816_S2816x1024_S16x4096x1024_2_0_01_1_n_n none
    (mulf (mulf (Host.dotGeneral Cert.Reference3Ideal.dot_S16x4096x1024_S1024x2816_S16x4096x2816_2_0_01_1_n_n none a0 a2)
      (Host.divf (broadcastInDim Cert.Reference3Ideal.S16x4096x2816 ![] Cert.Reference3Ideal.Gen.bcast_S_S16x4096x2816 (constant Cert.Reference3Ideal.S_ .f32 0x3F800000#32))
        (addf (broadcastInDim Cert.Reference3Ideal.S16x4096x2816 ![] Cert.Reference3Ideal.Gen.bcast_S_S16x4096x2816 (constant Cert.Reference3Ideal.S_ .f32 0x3F800000#32))
          (Host.exp (Host.negf (Host.dotGeneral Cert.Reference3Ideal.dot_S16x4096x1024_S1024x2816_S16x4096x2816_2_0_01_1_n_n none a0 a2))))))
      (Host.dotGeneral Cert.Reference3Ideal.dot_S16x4096x1024_S1024x2816_S16x4096x2816_2_0_01_1_n_n none a0 a3)) a4)) shapeCasts_S16x4096x1024_S65536x1024

theorem block_eq (a0 a1 : FVec Ideal S16x4096x1024 .f32) (a2 a3 : FVec Ideal S1024x2816 .f32) (a4 : FVec Ideal S2816x1024 .f32) (t : Fin cfg0.N) (j : S512x1024.Idx) :
    k0_pay2 (fun j : S512x1024.Idx => (truncf .bf16 (shapeCast S65536x1024 a0 shapeCasts_S16x4096x1024_S65536x1024) bitsLt_bf16_f32) (ix2 (row t (j 0)) (j 1)))
      (truncf .bf16 a2 bitsLt_bf16_f32) (truncf .bf16 a3 bitsLt_bf16_f32) (truncf .bf16 a4 bitsLt_bf16_f32)
      (fun j : S512x1024.Idx => (shapeCast S65536x1024 a1 shapeCasts_S16x4096x1024_S65536x1024) (ix2 (row t (j 0)) (j 1))) j
    = G a0 a1 a2 a3 a4 (ix2 (row t (j 0)) (j 1)) := by
  idx_vars j
  unfold G k0_pay2 k0_pay1
  pointwise
  unfold Ideal.logistic
  rfl

/-- What point `t` writes back is its block of the reference's result. -/
theorem flushed5_eq (m : (ℓ : Loc nD τ sig) → Buf (Elt Ideal) ℓ) (c : Dev nD) (t : Fin cfg0.N) :
    (dats m 0 c).flushed 5 t = ((cfg0.win 5).blk t).view.read (Elt Ideal) (G (m ((c : Thread nD τ).loc main_arg0))
      (m ((c : Thread nD τ).loc main_arg1)) (m ((c : Thread nD τ).loc main_arg2)) (m ((c : Thread nD τ).loc main_arg3)) (m ((c : Thread nD τ).loc main_arg4))) := by
  rw [flushed5_A, out_eq, iblk0, iblk1, iblk2, iblk3, iblk4, V1, V2, V3, V4, V5]
  funext j
  show _ = G _ _ _ _ _ (((cfg0.win 5).blk t).view.emb j)
  rw [emb5]
  exact block_eq _ _ _ _ _ t j

/-- The kernel's run, with the array it leaves at the reference's result of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = G (m ((c : Thread nD τ).loc main_arg0))
        (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed5_eq m c t) covered5), (h c).2⟩) (run_blocks m ρ)

end Ideal

end Cert.Proof.Ffn

end
-- ==== Proof.Merge.lean ====
/-
  The merge of the three branches: their projections, the gates, the output projection with the residual addition and the next
  norm. Each of the 128 grid points does 512 rows; both arrays that the kernel leaves are the ones that the reference leaves,
  element by element, over the extended reals.
-/
module

public import proofs.«01_k».proof.Proof.Gen.Kernel4Ideal.Value
public import proofs.«01_k».proof.Proof.Gen.Reference4Ideal.Run
public import Idealize.ShloMosaic.Lib.Pointwise

@[expose] public section

set_option maxRecDepth 16384

noncomputable section

namespace Cert.Proof.Merge

open Cert.Kernel4Ideal Cert.Kernel4Ideal.Gen Cert.Kernel4Ideal.Value Idealize.ShloMosaic Idealize.ShloMosaic.TcCoe Idealize.SL.Sem
open scoped BigOperators

theorem hz : (![0, 0] : Fin 2 → Nat) = fun _ => 0 := funext fun a => by fin_cases a <;> rfl

section Run
variable {F : FTy → Type} [FloatOps F]

/-- The rows of a block that lies as column blocks of 128: column `c` is column `c % 128` of block `c / 128`. -/
def flat8 (g : Vec F S8x512x128 .bf16) : FVec F S512x1024 .bf16 := fun j =>
  g (ix3 ⟨(j 1).val / 128, by have h : (j 1).val < 1024 := (j 1).isLt; omega⟩ (j 0) ⟨(j 1).val % 128, Nat.mod_lt _ (by decide)⟩)
def flat4 (g : Vec F S4x512x128 .bf16) : FVec F S512x512 .bf16 := fun j =>
  g (ix3 ⟨(j 1).val / 128, by have h : (j 1).val < 512 := (j 1).isLt; omega⟩ (j 0) ⟨(j 1).val % 128, Nat.mod_lt _ (by decide)⟩)

theorem cat8 (g : Vec F S8x512x128 .bf16) : concatenate S512x1024 1 [⟨S512x128, shapeCast S512x128 (View.ld g r0_0) shapeCasts_S1x512x128_S512x128⟩, ⟨S512x128, shapeCast S512x128 (View.ld g r0_1) shapeCasts_S1x512x128_S512x128⟩, ⟨S512x128, shapeCast S512x128 (View.ld g r0_2) shapeCasts_S1x512x128_S512x128⟩, ⟨S512x128, shapeCast S512x128 (View.ld g r0_3) shapeCasts_S1x512x128_S512x128⟩, ⟨S512x128, shapeCast S512x128 (View.ld g r0_4) shapeCasts_S1x512x128_S512x128⟩, ⟨S512x128, shapeCast S512x128 (View.ld g r0_5) shapeCasts_S1x512x128_S512x128⟩, ⟨S512x128, shapeCast S512x128 (View.ld g r0_6) shapeCasts_S1x512x128_S512x128⟩, ⟨S512x128, shapeCast S512x128 (View.ld g r0_7) shapeCasts_S1x512x128_S512x128⟩] concatenates_S512x128_S512x128_S512x128_S512x128_S512x128_S512x128_S512x128_S512x128_S512x1024_d1 = flat8 g := by
  funext j
  idx_vars j
  unfold flat8
  pointwise
  split_ifs <;> exact congrArg g (congrArg₂ (fun a b => ix3 a j0 b) (Fin.ext (by simp; omega)) (Fin.ext (by simp; omega)))
theorem cat4 (g : Vec F S4x512x128 .bf16) : concatenate S512x512 1 [⟨S512x128, shapeCast S512x128 (View.ld g r0_8) shapeCasts_S1x512x128_S512x128⟩, ⟨S512x128, shapeCast S512x128 (View.ld g r0_9) shapeCasts_S1x512x128_S512x128⟩, ⟨S512x128, shapeCast S512x128 (View.ld g r0_10) shapeCasts_S1x512x128_S512x128⟩, ⟨S512x128, shapeCast S512x128 (View.ld g r0_11) shapeCasts_S1x512x128_S512x128⟩] concatenates_S512x128_S512x128_S512x128_S512x128_S512x512_d1 = flat4 g := by
  funext j
  idx_vars j
  unfold flat4
  pointwise
  split_ifs <;> exact congrArg g (congrArg₂ (fun a b => ix3 a j0 b) (Fin.ext (by simp; omega)) (Fin.ext (by simp; omega)))

/-- What a grid point leaves in its block of the first result. -/
def xnew (x0 : Vec F S512x1024 .f32) (x1 : Vec F S4x512x128 .bf16) (x2 : Vec F S4x512x128 .bf16) (x3 : Vec F S4x512x128 .bf16) (x4 : Vec F S8x512x128 .bf16) (x5 : Vec F S8x512x128 .bf16) (x6 : Vec F S8x512x128 .bf16) (x7 : Vec F S3x512x1024 .bf16) (x8 : Vec F S1024x1024 .bf16) (x9 : Vec F S1x1024 .f32) : FVec F S512x1024 .f32 :=
  k0_pay15 (k0_pay17 x0 x1 x2 x3 x4 x5 x6 x7 x8 x9) (k0_pay18 x0 x1 x2 x3 x4 x5 x6 x7 x8 x9) (k0_pay19 x0 x1 x2 x3 x4 x5 x6 x7 x8 x9) (k0_pay20 x0 x1 x2 x3 x4 x5 x6 x7 x8 x9) (k0_pay21 x0 x1 x2 x3 x4 x5 x6 x7 x8 x9) (k0_pay22 x0 x1 x2 x3 x4 x5 x6 x7 x8 x9) (k0_pay23 x0 x1 x2 x3 x4 x5 x6 x7 x8 x9) (View.ld x6 r0_6) (View.ld x6 r0_7) (View.ld x3 r0_8) (View.ld x3 r0_9) (View.ld x3 r0_10) (View.ld x3 r0_11) (View.ld x7 r0_14) (View.ld x0 r0_15) (View.ld x8 r0_16)

theorem out10 (x0 : Vec F S512x1024 .f32) (x1 : Vec F S4x512x128 .bf16) (x2 : Vec F S4x512x128 .bf16) (x3 : Vec F S4x512x128 .bf16) (x4 : Vec F S8x512x128 .bf16) (x5 : Vec F S8x512x128 .bf16) (x6 : Vec F S8x512x128 .bf16) (x7 : Vec F S3x512x1024 .bf16) (x8 : Vec F S1024x1024 .bf16) (x9 : Vec F S1x1024 .f32) : out0_10 x0 x1 x2 x3 x4 x5 x6 x7 x8 x9 = xnew x0 x1 x2 x3 x4 x5 x6 x7 x8 x9 := by
  unfold out0_10 xnew
  rw [View.canon_unit_zero (S := S512x1024) hz]
theorem out11 (x0 : Vec F S512x1024 .f32) (x1 : Vec F S4x512x128 .bf16) (x2 : Vec F S4x512x128 .bf16) (x3 : Vec F S4x512x128 .bf16) (x4 : Vec F S8x512x128 .bf16) (x5 : Vec F S8x512x128 .bf16) (x6 : Vec F S8x512x128 .bf16) (x7 : Vec F S3x512x1024 .bf16) (x8 : Vec F S1024x1024 .bf16) (x9 : Vec F S1x1024 .f32) : out0_11 x0 x1 x2 x3 x4 x5 x6 x7 x8 x9 = k0_pay1 (xnew x0 x1 x2 x3 x4 x5 x6 x7 x8 x9) (shapeCast S512x1 (multiReduction .add [1] S512 (mulf (xnew x0 x1 x2 x3 x4 x5 x6 x7 x8 x9) (xnew x0 x1 x2 x3 x4 x5 x6 x7 x8 x9)) 0x00000000#32 reduces_S512x1024_S512 (.inl rfl) rfl) shapeCasts_S512_S512x1) (Scalar.ofBits .f32 0x44800000#32) x9 := by
  unfold out0_11 xnew
  rw [View.canon_unit_zero (S := S512x1024) hz, View.ld_unit_zero (S := S1x1024) hz]
  rfl

/-- One branch: its projection times its gate. -/
def branch (g : FVec F S512x1024 .bf16) (h : FVec F S512x512 .bf16) (w : FVec F S512x1024 .bf16) : FVec F S512x1024 .f32 :=
  mulf (logistic (extf .f32 g bitsLt_bf16_f32)) (matmul dot_S512x512_S512x1024_S512x1024_1_0_0_1_n_n none h w (constant S512x1024 .f32 0x00000000#32))
def wslice (w : Vec F S3x512x1024 .bf16) (n : Fin 3) : FVec F S512x1024 .bf16 := fun j => w (ix3 n (j 0) (j 1))

theorem wslice0 (w : Vec F S3x512x1024 .bf16) : shapeCast S512x1024 (View.ld w r0_12) shapeCasts_S1x512x1024_S512x1024 = wslice w 0 := by
  funext j
  idx_vars j
  unfold wslice
  pointwise
theorem wslice1 (w : Vec F S3x512x1024 .bf16) : shapeCast S512x1024 (View.ld w r0_13) shapeCasts_S1x512x1024_S512x1024 = wslice w 1 := by
  funext j
  idx_vars j
  unfold wslice
  pointwise
theorem wslice2 (w : Vec F S3x512x1024 .bf16) : shapeCast S512x1024 (View.ld w r0_14) shapeCasts_S1x512x1024_S512x1024 = wslice w 2 := by
  funext j
  idx_vars j
  unfold wslice
  pointwise
theorem self_x (x : Vec F S512x1024 .f32) : shapeCast S512x1024 (View.ld x r0_15) shapeCasts_S512x1024_S512x1024 = x := by
  rw [View.ld_unit_zero (S := S512x1024) hz]
  funext j
  idx_vars j
  pointwise
theorem self_w (x : Vec F S1024x1024 .bf16) : shapeCast S1024x1024 (View.ld x r0_16) shapeCasts_S1024x1024_S1024x1024 = x := by
  rw [View.ld_unit_zero (S := S1024x1024) hz]
  funext j
  idx_vars j
  pointwise

theorem xnew_eq (x0 : Vec F S512x1024 .f32) (x1 : Vec F S4x512x128 .bf16) (x2 : Vec F S4x512x128 .bf16) (x3 : Vec F S4x512x128 .bf16) (x4 : Vec F S8x512x128 .bf16) (x5 : Vec F S8x512x128 .bf16) (x6 : Vec F S8x512x128 .bf16) (x7 : Vec F S3x512x1024 .bf16) (x8 : Vec F S1024x1024 .bf16) (x9 : Vec F S1x1024 .f32) : xnew x0 x1 x2 x3 x4 x5 x6 x7 x8 x9 = addf x0 (matmul dot_S512x1024_S1024x1024_S512x1024_1_0_0_1_n_n none
    (truncf .bf16 (addf (addf (branch (flat8 x4) (flat4 x1) (wslice x7 0)) (branch (flat8 x5) (flat4 x2) (wslice x7 1))) (branch (flat8 x6) (flat4 x3) (wslice x7 2))) bitsLt_bf16_f32)
    x8 (constant S512x1024 .f32 0x00000000#32)) := by
  unfold xnew k0_pay23 k0_pay22 k0_pay21 k0_pay20 k0_pay19 k0_pay18 k0_pay17 k0_pay15 k0_pay14 k0_pay13 k0_pay12 k0_pay11 k0_pay10 k0_pay9 k0_pay8 k0_pay7 k0_pay6 k0_pay5 k0_pay4 k0_pay3 k0_pay2
  dsimp only
  rw [cat8 x4, cat8 x5, cat8 x6, cat4 x1, cat4 x2, cat4 x3, wslice0, wslice1, wslice2, self_x, self_w]
  rfl

variable (m : (ℓ : Loc nD τ sig) → Buf (Elt F) ℓ)

/-- The host's operations before the call. -/
theorem V0 (c : Dev nD) : V m c main_v0 = shapeCast S65536x1024 (m ((c : Thread nD τ).loc main_arg0)) shapeCasts_S16x4096x1024_S65536x1024 := by
  unfold V hostOps0
  after_results <;> rfl
theorem V3 (c : Dev nD) : V m c main_v3 = truncf .bf16 (transpose S88x65536x128 [1, 0, 2] (shapeCast S65536x88x128 (m ((c : Thread nD τ).loc main_arg1)) shapeCasts_S16x4096x11264_S65536x88x128) transposes_S65536x88x128_S88x65536x128_1_0_2) bitsLt_bf16_f32 := by
  unfold V hostOps0
  after_results <;> rfl
theorem V6 (c : Dev nD) : V m c main_v6 = truncf .bf16 (transpose S4x65536x128 [1, 0, 2] (shapeCast S65536x4x128 (m ((c : Thread nD τ).loc main_arg2)) shapeCasts_S16x4096x512_S65536x4x128) transposes_S65536x4x128_S4x65536x128_1_0_2) bitsLt_bf16_f32 := by
  unfold V hostOps0
  after_results <;> rfl
theorem V9 (c : Dev nD) : V m c main_v9 = truncf .bf16 (transpose S4x65536x128 [1, 0, 2] (shapeCast S65536x4x128 (m ((c : Thread nD τ).loc main_arg3)) shapeCasts_S16x4096x512_S65536x4x128) transposes_S65536x4x128_S4x65536x128_1_0_2) bitsLt_bf16_f32 := by
  unfold V hostOps0
  after_results <;> rfl
theorem V12 (c : Dev nD) : V m c main_v12 = truncf .bf16 (transpose S4x65536x128 [1, 0, 2] (shapeCast S65536x4x128 (m ((c : Thread nD τ).loc main_arg4)) shapeCasts_S16x4096x512_S65536x4x128) transposes_S65536x4x128_S4x65536x128_1_0_2) bitsLt_bf16_f32 := by
  unfold V hostOps0
  after_results <;> rfl
theorem V13 (c : Dev nD) : V m c main_v13 = truncf .bf16 (m ((c : Thread nD τ).loc main_arg5)) bitsLt_bf16_f32 := by
  unfold V hostOps0
  after_results <;> rfl
theorem V14 (c : Dev nD) : V m c main_v14 = truncf .bf16 (m ((c : Thread nD τ).loc main_arg6)) bitsLt_bf16_f32 := by
  unfold V hostOps0
  after_results <;> rfl
theorem V15 (c : Dev nD) : V m c main_v15 = broadcastInDim S1x1024 ![1] bcast_S1024_S1x1024_1 (m ((c : Thread nD τ).loc main_arg7)) := by
  unfold V hostOps0
  after_results <;> rfl

/-- The block indices: point `t` is at row tile `t`; the gates are the column tiles 8, 9 and 10 of the combined projection. -/
theorem idx0 : ∀ t : Fin cfg0.N, win0_0.index t (0 : Fin 2) = t.val ∧ win0_0.index t (1 : Fin 2) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx1 : ∀ t : Fin cfg0.N, win0_1.index t (0 : Fin 3) = 0 ∧ win0_1.index t (1 : Fin 3) = t.val ∧ win0_1.index t (2 : Fin 3) = 0 := (by decide +kernel : ∀ t : Fin grid0.N, _)
theorem idx2 : ∀ t : Fin cfg0.N, win0_2.index t (0 : Fin 3) = 0 ∧ win0_2.index t (1 : Fin 3) = t.val ∧ win0_2.index t (2 : Fin 3) = 0 := (by decide +kernel : ∀ t : Fin grid0.N, _)
theorem idx3 : ∀ t : Fin cfg0.N, win0_3.index t (0 : Fin 3) = 0 ∧ win0_3.index t (1 : Fin 3) = t.val ∧ win0_3.index t (2 : Fin 3) = 0 := (by decide +kernel : ∀ t : Fin grid0.N, _)
theorem idx4 : ∀ t : Fin cfg0.N, win0_4.index t (0 : Fin 3) = 8 ∧ win0_4.index t (1 : Fin 3) = t.val ∧ win0_4.index t (2 : Fin 3) = 0 := (by decide +kernel : ∀ t : Fin grid0.N, _)
theorem idx5 : ∀ t : Fin cfg0.N, win0_5.index t (0 : Fin 3) = 9 ∧ win0_5.index t (1 : Fin 3) = t.val ∧ win0_5.index t (2 : Fin 3) = 0 := (by decide +kernel : ∀ t : Fin grid0.N, _)
theorem idx6 : ∀ t : Fin cfg0.N, win0_6.index t (0 : Fin 3) = 10 ∧ win0_6.index t (1 : Fin 3) = t.val ∧ win0_6.index t (2 : Fin 3) = 0 := (by decide +kernel : ∀ t : Fin grid0.N, _)

/-- Row `p` of row tile `t`, and column block `p` of column tile `n`. -/
def row (t : Fin cfg0.N) (p : Fin 512) : Fin 65536 := ⟨512 * t.val + p.val, by have := t.isLt; have : cfg0.N = 128 := rfl; omega⟩
def blk (n : Nat) (hn : n < 11) (p : Fin 8) : Fin 88 := ⟨8 * n + p.val, by omega⟩

theorem emb0 (t : Fin cfg0.N) (j : S512x1024.Idx) : ((cfg0.win 0).blk t).view.emb j = ix2 (row t (j 0)) (j 1) := by
  obtain ⟨e0, e1⟩ := idx0 t
  funext a; apply Fin.ext
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega
theorem emb7 (t : Fin cfg0.N) (j : S3x512x1024.Idx) : ((cfg0.win 7).blk t).view.emb j = j := by
  obtain ⟨e0, e1, e2⟩ := idx7 t
  funext a; apply Fin.ext
  match a with
  | ⟨0, _⟩ => show win0_7.index t (0 : Fin 3) * 3 + 1 * (j 0).val = (j 0).val; omega
  | ⟨1, _⟩ => show win0_7.index t (1 : Fin 3) * 512 + 1 * (j 1).val = (j 1).val; omega
  | ⟨2, _⟩ => show win0_7.index t (2 : Fin 3) * 1024 + 1 * (j 2).val = (j 2).val; omega
theorem emb8 (t : Fin cfg0.N) (j : S1024x1024.Idx) : ((cfg0.win 8).blk t).view.emb j = j := by
  obtain ⟨e0, e1⟩ := idx8 t
  funext a; apply Fin.ext
  match a with
  | ⟨0, _⟩ => show win0_8.index t (0 : Fin 2) * 1024 + 1 * (j 0).val = (j 0).val; omega
  | ⟨1, _⟩ => show win0_8.index t (1 : Fin 2) * 1024 + 1 * (j 1).val = (j 1).val; omega
theorem emb9 (t : Fin cfg0.N) (j : S1x1024.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega
theorem emb10 (t : Fin cfg0.N) (j : S512x1024.Idx) : ((cfg0.win 10).blk t).view.emb j = ix2 (row t (j 0)) (j 1) := by
  obtain ⟨e0, e1⟩ := idx10 t
  funext a; apply Fin.ext
  match a with
  | ⟨0, _⟩ => show win0_10.index t (0 : Fin 2) * 512 + 1 * (j 0).val = 512 * t.val + (j 0).val; omega
  | ⟨1, _⟩ => show win0_10.index t (1 : Fin 2) * 1024 + 1 * (j 1).val = (j 1).val; omega
theorem emb11 (t : Fin cfg0.N) (j : S512x1024.Idx) : ((cfg0.win 11).blk t).view.emb j = ix2 (row t (j 0)) (j 1) := by
  obtain ⟨e0, e1⟩ := idx11 t
  funext a; apply Fin.ext
  match a with
  | ⟨0, _⟩ => show win0_11.index t (0 : Fin 2) * 512 + 1 * (j 0).val = 512 * t.val + (j 0).val; omega
  | ⟨1, _⟩ => show win0_11.index t (1 : Fin 2) * 1024 + 1 * (j 1).val = (j 1).val; omega
theorem emb1 (t : Fin cfg0.N) (j : S4x512x128.Idx) : ((cfg0.win 1).blk t).view.emb j = ix3 (j 0) (row t (j 1)) (j 2) := by
  obtain ⟨e0, e1, e2⟩ := idx1 t
  funext a; apply Fin.ext
  match a with
  | ⟨0, _⟩ => show win0_1.index t (0 : Fin 3) * 4 + 1 * (j 0).val = (j 0).val; omega
  | ⟨1, _⟩ => show win0_1.index t (1 : Fin 3) * 512 + 1 * (j 1).val = 512 * t.val + (j 1).val; omega
  | ⟨2, _⟩ => show win0_1.index t (2 : Fin 3) * 128 + 1 * (j 2).val = (j 2).val; omega
theorem emb2 (t : Fin cfg0.N) (j : S4x512x128.Idx) : ((cfg0.win 2).blk t).view.emb j = ix3 (j 0) (row t (j 1)) (j 2) := by
  obtain ⟨e0, e1, e2⟩ := idx2 t
  funext a; apply Fin.ext
  match a with
  | ⟨0, _⟩ => show win0_2.index t (0 : Fin 3) * 4 + 1 * (j 0).val = (j 0).val; omega
  | ⟨1, _⟩ => show win0_2.index t (1 : Fin 3) * 512 + 1 * (j 1).val = 512 * t.val + (j 1).val; omega
  | ⟨2, _⟩ => show win0_2.index t (2 : Fin 3) * 128 + 1 * (j 2).val = (j 2).val; omega
theorem emb3 (t : Fin cfg0.N) (j : S4x512x128.Idx) : ((cfg0.win 3).blk t).view.emb j = ix3 (j 0) (row t (j 1)) (j 2) := by
  obtain ⟨e0, e1, e2⟩ := idx3 t
  funext a; apply Fin.ext
  match a with
  | ⟨0, _⟩ => show win0_3.index t (0 : Fin 3) * 4 + 1 * (j 0).val = (j 0).val; omega
  | ⟨1, _⟩ => show win0_3.index t (1 : Fin 3) * 512 + 1 * (j 1).val = 512 * t.val + (j 1).val; omega
  | ⟨2, _⟩ => show win0_3.index t (2 : Fin 3) * 128 + 1 * (j 2).val = (j 2).val; omega
theorem emb4 (t : Fin cfg0.N) (j : S8x512x128.Idx) : ((cfg0.win 4).blk t).view.emb j = ix3 (blk 8 (by decide) (j 0)) (row t (j 1)) (j 2) := by
  obtain ⟨e0, e1, e2⟩ := idx4 t
  funext a; apply Fin.ext
  match a with
  | ⟨0, _⟩ => show win0_4.index t (0 : Fin 3) * 8 + 1 * (j 0).val = 8 * 8 + (j 0).val; omega
  | ⟨1, _⟩ => show win0_4.index t (1 : Fin 3) * 512 + 1 * (j 1).val = 512 * t.val + (j 1).val; omega
  | ⟨2, _⟩ => show win0_4.index t (2 : Fin 3) * 128 + 1 * (j 2).val = (j 2).val; omega
theorem emb5 (t : Fin cfg0.N) (j : S8x512x128.Idx) : ((cfg0.win 5).blk t).view.emb j = ix3 (blk 9 (by decide) (j 0)) (row t (j 1)) (j 2) := by
  obtain ⟨e0, e1, e2⟩ := idx5 t
  funext a; apply Fin.ext
  match a with
  | ⟨0, _⟩ => show win0_5.index t (0 : Fin 3) * 8 + 1 * (j 0).val = 8 * 9 + (j 0).val; omega
  | ⟨1, _⟩ => show win0_5.index t (1 : Fin 3) * 512 + 1 * (j 1).val = 512 * t.val + (j 1).val; omega
  | ⟨2, _⟩ => show win0_5.index t (2 : Fin 3) * 128 + 1 * (j 2).val = (j 2).val; omega
theorem emb6 (t : Fin cfg0.N) (j : S8x512x128.Idx) : ((cfg0.win 6).blk t).view.emb j = ix3 (blk 10 (by decide) (j 0)) (row t (j 1)) (j 2) := by
  obtain ⟨e0, e1, e2⟩ := idx6 t
  funext a; apply Fin.ext
  match a with
  | ⟨0, _⟩ => show win0_6.index t (0 : Fin 3) * 8 + 1 * (j 0).val = 8 * 10 + (j 0).val; omega
  | ⟨1, _⟩ => show win0_6.index t (1 : Fin 3) * 512 + 1 * (j 1).val = 512 * t.val + (j 1).val; omega
  | ⟨2, _⟩ => show win0_6.index t (2 : Fin 3) * 128 + 1 * (j 2).val = (j 2).val; omega

/-- Row tile `t` of an array, of a branch and of column tile `n` of the combined projection. -/
def rows (x : Vec F S65536x1024 .f32) (t : Fin cfg0.N) : Vec F S512x1024 .f32 := fun j => x (ix2 (row t (j 0)) (j 1))
def rows4 (x : Vec F S4x65536x128 .bf16) (t : Fin cfg0.N) : Vec F S4x512x128 .bf16 := fun j => x (ix3 (j 0) (row t (j 1)) (j 2))
def rows8 (x : Vec F S88x65536x128 .bf16) (n : Nat) (hn : n < 11) (t : Fin cfg0.N) : Vec F S8x512x128 .bf16 := fun j => x (ix3 (blk n hn (j 0)) (row t (j 1)) (j 2))

theorem iblk0 (c : Dev nD) (t : Fin cfg0.N) : iblk m c 0 t = rows (F := F) (V m c main_v0) t := by
  funext j; show V m c main_v0 (((cfg0.win 0).blk t).view.emb j) = _; rw [emb0]; rfl
theorem iblk1 (c : Dev nD) (t : Fin cfg0.N) : iblk m c 1 t = rows4 (F := F) (V m c main_v6) t := by
  funext j; show V m c main_v6 (((cfg0.win 1).blk t).view.emb j) = _; rw [emb1]; rfl
theorem iblk2 (c : Dev nD) (t : Fin cfg0.N) : iblk m c 2 t = rows4 (F := F) (V m c main_v9) t := by
  funext j; show V m c main_v9 (((cfg0.win 2).blk t).view.emb j) = _; rw [emb2]; rfl
theorem iblk3 (c : Dev nD) (t : Fin cfg0.N) : iblk m c 3 t = rows4 (F := F) (V m c main_v12) t := by
  funext j; show V m c main_v12 (((cfg0.win 3).blk t).view.emb j) = _; rw [emb3]; rfl
theorem iblk4 (c : Dev nD) (t : Fin cfg0.N) : iblk m c 4 t = rows8 (F := F) (V m c main_v3) 8 (by decide) t := by
  funext j; show V m c main_v3 (((cfg0.win 4).blk t).view.emb j) = _; rw [emb4]; rfl
theorem iblk5 (c : Dev nD) (t : Fin cfg0.N) : iblk m c 5 t = rows8 (F := F) (V m c main_v3) 9 (by decide) t := by
  funext j; show V m c main_v3 (((cfg0.win 5).blk t).view.emb j) = _; rw [emb5]; rfl
theorem iblk6 (c : Dev nD) (t : Fin cfg0.N) : iblk m c 6 t = rows8 (F := F) (V m c main_v3) 10 (by decide) t := by
  funext j; show V m c main_v3 (((cfg0.win 6).blk t).view.emb j) = _; rw [emb6]; rfl
theorem iblk7 (c : Dev nD) (t : Fin cfg0.N) : iblk m c 7 t = (V m c main_v13) := by
  funext j; show V m c main_v13 (((cfg0.win 7).blk t).view.emb j) = _; rw [emb7]
theorem iblk8 (c : Dev nD) (t : Fin cfg0.N) : iblk m c 8 t = (V m c main_v14) := by
  funext j; show V m c main_v14 (((cfg0.win 8).blk t).view.emb j) = _; rw [emb8]
theorem iblk9 (c : Dev nD) (t : Fin cfg0.N) : iblk m c 9 t = (V m c main_v15) := by
  funext j; show V m c main_v15 (((cfg0.win 9).blk t).view.emb j) = _; rw [emb9]
theorem covered10 (i : S65536x1024.Idx) : ∃ t : Fin cfg0.N, (cfg0.win 10).flush t = true ∧ i ∈ ((cfg0.win 10).blk t).view.set := by
  obtain ⟨r, hr⟩ : ∃ r : Fin 65536, r = i 0 := ⟨_, rfl⟩
  have hN : cfg0.N = 128 := rfl
  obtain ⟨t, ht⟩ : ∃ t : Fin cfg0.N, t.val = r.val / 512 := ⟨⟨r.val / 512, by omega⟩, rfl⟩
  refine ⟨t, flush0_10 _, ?_⟩
  have h := ((cfg0.win 10).blk t).view.emb_mem_set (ix2 (⟨r.val % 512, Nat.mod_lt _ (by decide)⟩ : Fin 512) (i 1))
  rw [emb10] at h
  refine Eq.mpr (congrArg (· ∈ ((cfg0.win 10).blk t).view.set) (funext fun a => Fin.ext ?_)) h
  match a with
  | ⟨0, _⟩ => show (i 0).val = 512 * t.val + r.val % 512; rw [← hr]; omega
  | ⟨1, _⟩ => rfl
theorem covered11 (i : S65536x1024.Idx) : ∃ t : Fin cfg0.N, (cfg0.win 11).flush t = true ∧ i ∈ ((cfg0.win 11).blk t).view.set := by
  obtain ⟨r, hr⟩ : ∃ r : Fin 65536, r = i 0 := ⟨_, rfl⟩
  have hN : cfg0.N = 128 := rfl
  obtain ⟨t, ht⟩ : ∃ t : Fin cfg0.N, t.val = r.val / 512 := ⟨⟨r.val / 512, by omega⟩, rfl⟩
  refine ⟨t, flush0_11 _, ?_⟩
  have h := ((cfg0.win 11).blk t).view.emb_mem_set (ix2 (⟨r.val % 512, Nat.mod_lt _ (by decide)⟩ : Fin 512) (i 1))
  rw [emb11] at h
  refine Eq.mpr (congrArg (· ∈ ((cfg0.win 11).blk t).view.set) (funext fun a => Fin.ext ?_)) h
  match a with
  | ⟨0, _⟩ => show (i 0).val = 512 * t.val + r.val % 512; rw [← hr]; omega
  | ⟨1, _⟩ => rfl

end Run

section Ideal

/-- The reference's two results, as its run states them. -/
def Z (a0 : FVec Ideal S16x4096x1024 .f32) (a1 : FVec Ideal S16x4096x11264 .f32) (a2 a3 a4 : FVec Ideal S16x4096x512 .f32) (a5 : FVec Ideal S3x512x1024 .f32) (a6 : FVec Ideal S1024x1024 .f32) : FVec Ideal Cert.Reference4Ideal.S16x4096x1024 .f32 :=
  (addf a0 (Host.dotGeneral Cert.Reference4Ideal.dot_S16x4096x1024_S1024x1024_S16x4096x1024_2_0_01_1_n_n none (addf (addf (addf (broadcastInDim Cert.Reference4Ideal.S16x4096x1024 ![] Cert.Reference4Ideal.Gen.bcast_S_S16x4096x1024 (constant Cert.Reference4Ideal.S_ .f32 0x00000000#32)) (mulf (Host.divf (broadcastInDim Cert.Reference4Ideal.S16x4096x1024 ![] Cert.Reference4Ideal.Gen.bcast_S_S16x4096x1024 (constant Cert.Reference4Ideal.S_ .f32 0x3F800000#32)) (addf (broadcastInDim Cert.Reference4Ideal.S16x4096x1024 ![] Cert.Reference4Ideal.Gen.bcast_S_S16x4096x1024 (constant Cert.Reference4Ideal.S_ .f32 0x3F800000#32)) (Host.exp (Host.negf (extractStridedSlice Cert.Reference4Ideal.S16x4096x1024 ![0, 0, 8192] a1 Cert.Reference4Ideal.Gen.slices_S16x4096x11264_S16x4096x1024_0_0_8192))))) (Host.dotGeneral Cert.Reference4Ideal.dot_S16x4096x512_S512x1024_S16x4096x1024_2_0_01_1_n_n none a2 (shapeCast _ (extractStridedSlice Cert.Reference4Ideal.S1x512x1024 ![0, 0, 0] a5 Cert.Reference4Ideal.Gen.slices_S3x512x1024_S1x512x1024_0_0_0) Cert.Reference4Ideal.Gen.shapeCasts_S1x512x1024_S512x1024)))) (mulf (Host.divf (broadcastInDim Cert.Reference4Ideal.S16x4096x1024 ![] Cert.Reference4Ideal.Gen.bcast_S_S16x4096x1024 (constant Cert.Reference4Ideal.S_ .f32 0x3F800000#32)) (addf (broadcastInDim Cert.Reference4Ideal.S16x4096x1024 ![] Cert.Reference4Ideal.Gen.bcast_S_S16x4096x1024 (constant Cert.Reference4Ideal.S_ .f32 0x3F800000#32)) (Host.exp (Host.negf (extractStridedSlice Cert.Reference4Ideal.S16x4096x1024 ![0, 0, 9216] a1 Cert.Reference4Ideal.Gen.slices_S16x4096x11264_S16x4096x1024_0_0_9216))))) (Host.dotGeneral Cert.Reference4Ideal.dot_S16x4096x512_S512x1024_S16x4096x1024_2_0_01_1_n_n none a3 (shapeCast _ (extractStridedSlice Cert.Reference4Ideal.S1x512x1024 ![1, 0, 0] a5 Cert.Reference4Ideal.Gen.slices_S3x512x1024_S1x512x1024_1_0_0) Cert.Reference4Ideal.Gen.shapeCasts_S1x512x1024_S512x1024)))) (mulf (Host.divf (broadcastInDim Cert.Reference4Ideal.S16x4096x1024 ![] Cert.Reference4Ideal.Gen.bcast_S_S16x4096x1024 (constant Cert.Reference4Ideal.S_ .f32 0x3F800000#32)) (addf (broadcastInDim Cert.Reference4Ideal.S16x4096x1024 ![] Cert.Reference4Ideal.Gen.bcast_S_S16x4096x1024 (constant Cert.Reference4Ideal.S_ .f32 0x3F800000#32)) (Host.exp (Host.negf (extractStridedSlice Cert.Reference4Ideal.S16x4096x1024 ![0, 0, 10240] a1 Cert.Reference4Ideal.Gen.slices_S16x4096x11264_S16x4096x1024_0_0_10240))))) (Host.dotGeneral Cert.Reference4Ideal.dot_S16x4096x512_S512x1024_S16x4096x1024_2_0_01_1_n_n none a4 (shapeCast _ (extractStridedSlice Cert.Reference4Ideal.S1x512x1024 ![2, 0, 0] a5 Cert.Reference4Ideal.Gen.slices_S3x512x1024_S1x512x1024_2_0_0) Cert.Reference4Ideal.Gen.shapeCasts_S1x512x1024_S512x1024)))) a6))
def G0 (a0 : FVec Ideal S16x4096x1024 .f32) (a1 : FVec Ideal S16x4096x11264 .f32) (a2 a3 a4 : FVec Ideal S16x4096x512 .f32) (a5 : FVec Ideal S3x512x1024 .f32) (a6 : FVec Ideal S1024x1024 .f32) : FVec Ideal Cert.Reference4Ideal.S65536x1024 .f32 :=
  shapeCast Cert.Reference4Ideal.S65536x1024 (Z a0 a1 a2 a3 a4 a5 a6) Cert.Reference4Ideal.Gen.shapeCasts_S16x4096x1024_S65536x1024
def G1 (z : FVec Ideal Cert.Reference4Ideal.S16x4096x1024 .f32) (a7 : FVec Ideal S1024 .f32) : FVec Ideal Cert.Reference4Ideal.S65536x1024 .bf16 :=
  truncf .bf16 (shapeCast Cert.Reference4Ideal.S65536x1024 (mulf (mulf z (broadcastInDim Cert.Reference4Ideal.S16x4096x1024 ![0, 1, 2] Cert.Reference4Ideal.Gen.bcast_S16x4096x1_S16x4096x1024_0_1_2 (Host.rsqrt (addf (Host.divf (broadcastInDim Cert.Reference4Ideal.S16x4096x1 ![0, 1] Cert.Reference4Ideal.Gen.bcast_S16x4096_S16x4096x1_0_1 (Host.reduceAdd (mulf z z) (constant Cert.Reference4Ideal.S_ .f32 0x00000000#32) Cert.Reference4Ideal.Gen.reducesTo_S16x4096x1024_S16x4096_d2 Cert.Reference4Ideal.Gen.h_S_)) (broadcastInDim Cert.Reference4Ideal.S16x4096x1 ![] Cert.Reference4Ideal.Gen.bcast_S_S16x4096x1 (constant Cert.Reference4Ideal.S_ .f32 0x44800000#32))) (broadcastInDim Cert.Reference4Ideal.S16x4096x1 ![] Cert.Reference4Ideal.Gen.bcast_S_S16x4096x1 (constant Cert.Reference4Ideal.S_ .f32 0x358637BD#32)))))) (broadcastInDim Cert.Reference4Ideal.S16x4096x1024 ![0, 1, 2] Cert.Reference4Ideal.Gen.bcast_S1x1x1024_S16x4096x1024_0_1_2 (broadcastInDim Cert.Reference4Ideal.S1x1x1024 ![2] Cert.Reference4Ideal.Gen.bcast_S1024_S1x1x1024_2 a7))) Cert.Reference4Ideal.Gen.shapeCasts_S16x4096x1024_S65536x1024) Cert.Reference4Ideal.Gen.bitsLt_bf16_f32

theorem block0 (a0 : FVec Ideal S16x4096x1024 .f32) (a1 : FVec Ideal S16x4096x11264 .f32) (a2 a3 a4 : FVec Ideal S16x4096x512 .f32) (a5 : FVec Ideal S3x512x1024 .f32) (a6 : FVec Ideal S1024x1024 .f32) (a7 : FVec Ideal S1024 .f32) (t : Fin cfg0.N) :
    xnew (F := Ideal) (rows (F := Ideal) (shapeCast S65536x1024 a0 shapeCasts_S16x4096x1024_S65536x1024) t) (rows4 (F := Ideal) (truncf .bf16 (transpose S4x65536x128 [1, 0, 2] (shapeCast S65536x4x128 a2 shapeCasts_S16x4096x512_S65536x4x128) transposes_S65536x4x128_S4x65536x128_1_0_2) bitsLt_bf16_f32) t) (rows4 (F := Ideal) (truncf .bf16 (transpose S4x65536x128 [1, 0, 2] (shapeCast S65536x4x128 a3 shapeCasts_S16x4096x512_S65536x4x128) transposes_S65536x4x128_S4x65536x128_1_0_2) bitsLt_bf16_f32) t) (rows4 (F := Ideal) (truncf .bf16 (transpose S4x65536x128 [1, 0, 2] (shapeCast S65536x4x128 a4 shapeCasts_S16x4096x512_S65536x4x128) transposes_S65536x4x128_S4x65536x128_1_0_2) bitsLt_bf16_f32) t) (rows8 (F := Ideal) (truncf .bf16 (transpose S88x65536x128 [1, 0, 2] (shapeCast S65536x88x128 a1 shapeCasts_S16x4096x11264_S65536x88x128) transposes_S65536x88x128_S88x65536x128_1_0_2) bitsLt_bf16_f32) 8 (by decide) t) (rows8 (F := Ideal) (truncf .bf16 (transpose S88x65536x128 [1, 0, 2] (shapeCast S65536x88x128 a1 shapeCasts_S16x4096x11264_S65536x88x128) transposes_S65536x88x128_S88x65536x128_1_0_2) bitsLt_bf16_f32) 9 (by decide) t) (rows8 (F := Ideal) (truncf .bf16 (transpose S88x65536x128 [1, 0, 2] (shapeCast S65536x88x128 a1 shapeCasts_S16x4096x11264_S65536x88x128) transposes_S65536x88x128_S88x65536x128_1_0_2) bitsLt_bf16_f32) 10 (by decide) t) ((truncf .bf16 a5 bitsLt_bf16_f32)) ((truncf .bf16 a6 bitsLt_bf16_f32)) ((broadcastInDim S1x1024 ![1] bcast_S1024_S1x1024_1 a7)) = rows (F := Ideal) (G0 a0 a1 a2 a3 a4 a5 a6) t := by
  rw [xnew_eq]
  funext j
  idx_vars j
  unfold G0 Z branch flat8 flat4 wslice rows rows4 rows8
  pointwise
  unfold Ideal.logistic
  refine congrArg _ (Finset.sum_congr rfl fun x _ => congrArg (· * _) (congrArg₂ (· + ·) (congrArg₂ (· + ·) (congrArg (· * _) ?_) (congrArg (· * _) ?_)) (congrArg (· * _) ?_)))
  · refine congrArg (fun c => Ideal.div 1 (1 + Ideal.exp (-a1 (ix3 _ _ c)))) (Fin.ext ?_)
    show (8 * 8 + x.val / 128) * 128 + x.val % 128 = 8192 + x.val
    omega
  · refine congrArg (fun c => Ideal.div 1 (1 + Ideal.exp (-a1 (ix3 _ _ c)))) (Fin.ext ?_)
    show (8 * 9 + x.val / 128) * 128 + x.val % 128 = 9216 + x.val
    omega
  · refine congrArg (fun c => Ideal.div 1 (1 + Ideal.exp (-a1 (ix3 _ _ c)))) (Fin.ext ?_)
    show (8 * 10 + x.val / 128) * 128 + x.val % 128 = 10240 + x.val
    omega

theorem block1 (z : FVec Ideal S16x4096x1024 .f32) (a7 : FVec Ideal S1024 .f32) (t : Fin cfg0.N) (j : S512x1024.Idx) :
    (fun y : FVec Ideal S512x1024 .f32 => k0_pay1 (F := Ideal) y (shapeCast S512x1 (multiReduction .add [1] S512 (mulf y y) 0x00000000#32 reduces_S512x1024_S512 (.inl rfl) rfl) shapeCasts_S512_S512x1) (Scalar.ofBits .f32 0x44800000#32) (broadcastInDim S1x1024 ![1] bcast_S1024_S1x1024_1 a7))
      (rows (F := Ideal) (shapeCast S65536x1024 z shapeCasts_S16x4096x1024_S65536x1024) t) j = G1 z a7 (ix2 (row t (j 0)) (j 1)) := by
  idx_vars j
  unfold G1 k0_pay1 rows
  pointwise

/-- What point `t` writes back is its block of the reference's results. -/
theorem flushed10_eq (m : (ℓ : Loc nD τ sig) → Buf (Elt Ideal) ℓ) (c : Dev nD) (t : Fin cfg0.N) :
    (dats m 0 c).flushed 10 t = ((cfg0.win 10).blk t).view.read (Elt Ideal) (G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed10, out10, iblk0, iblk1, iblk2, iblk3, iblk4, iblk5, iblk6, iblk7, iblk8, iblk9, V0, V3, V6, V9, V12, V13, V14, V15, block0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))]
  funext j
  show _ = G0 _ _ _ _ _ _ _ (((cfg0.win 10).blk t).view.emb j)
  rw [emb10]
  rfl
theorem flushed11_eq (m : (ℓ : Loc nD τ sig) → Buf (Elt Ideal) ℓ) (c : Dev nD) (t : Fin cfg0.N) :
    (dats m 0 c).flushed 11 t = ((cfg0.win 11).blk t).view.read (Elt Ideal) (G1 (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7))) := by
  rw [flushed11, out11, iblk0, iblk1, iblk2, iblk3, iblk4, iblk5, iblk6, iblk7, iblk8, iblk9, V0, V3, V6, V9, V12, V13, V14, V15, block0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))]
  funext j
  show _ = G1 _ _ (((cfg0.win 11).blk t).view.emb j)
  rw [emb11]
  exact block1 _ _ t j

/-- The kernel's run, with the arrays it leaves at the reference's results of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v16_0) = G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v16_1) = G1 (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((dats m 0 c).arrAt_eq_of_cover 10 _ (fun t _ => flushed10_eq m c t) covered10),
    (h c).2.1.trans ((dats m 0 c).arrAt_eq_of_cover 11 _ (fun t _ => flushed11_eq m c t) covered11), (h c).2.2⟩) (run_blocks m ρ)

end Ideal

end Cert.Proof.Merge

end
-- ==== Proof.ExpertsRun.lean ====
/-
  The experts on the dispatched rows: what the grid points leave, and the blocks they read. Points `2 i` and `2 i + 1` share
  block `i` of 512 rows; each takes one half of the hidden columns of the block's expert, whose number is read off a table.
-/
module

public import proofs.«01_k».proof.Proof.Gen.Kernel5Ideal.Frame
public import Idealize.ShloMosaic.Lib.Pipeline.Value
public import Idealize.ShloMosaic.Lib.Pointwise
public import Idealize.ShloMosaic.Lib.StableHlo.Predicate

@[expose] public section

set_option maxRecDepth 16384

noncomputable section

namespace Cert.Proof.Experts

open Cert.Kernel5Ideal Cert.Kernel5Ideal.Gen Idealize.ShloMosaic Idealize.ShloMosaic.TcCoe Idealize.SL.Sem
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

section Run
variable {F : FTy → Type} [FloatOps F]

/-- A first point of a used block: zeros in the scratch, then the first half of the sum. -/
theorem sout_A (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) :
    sout0_A_0 c i arg4 harg4 arg5 harg5 arg6 harg6 arg7 harg7 arg8 harg8 arg9 harg9 hc0 hc2 x0 x1 x2 x3 xt0 xt1 hc1 = k0_pay2 x0 x1 k0_pay1 x2 x3 := by
  unfold sout0_A_0
  rw [View.read_writes_junk_eq_canon]
  unfold kernelRun0_A
  dsimp only
  unfold kernelRun0_A.sl.v15 kernelRun0_A.sl.HS0_1
  rw [View.canon_cons_unit_zero hz, View.readCov_cons_toLoadRect, View.readAt_eq_ld, View.readAt_eq_ld, View.readAt_eq_ld, View.readAt_eq_ld, harg4.read_unread, harg5.read_unread, harg6.read_unread, harg7.read_unread,
    View.ld_unit_zero (S := S512x1024) hz, View.ld_unit_zero (S := S1x1024x1792) hz3, View.ld_unit_zero (S := S1x1024x1792) hz3, View.ld_unit_zero (S := S1x1792x1024) hz3]

/-- A first point of an unused block: zeros in the scratch. -/
theorem sout_B (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : cond0_0 i) (hc2 : ¬cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) :
    sout0_B_0 c i arg4 harg4 arg5 harg5 arg6 harg6 arg7 harg7 arg8 harg8 arg9 harg9 hc0 hc2 x0 x1 x2 x3 xt0 xt1 hc1 = k0_pay1 := by
  unfold sout0_B_0
  rw [View.read_writes_junk_eq_canon]
  unfold kernelRun0_B
  dsimp only
  rw [View.canon_unit_zero hz]

/-- A second point of a used block: the second half is added, and the sum is rounded. -/
theorem out_C (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) :
    out0_C_4 c i arg4 harg4 arg5 harg5 arg6 harg6 arg7 harg7 arg8 harg8 arg9 harg9 hc0 hc2 x0 x1 x2 x3 xt0 xt1 xs0 hc1 = k0_pay3 (k0_pay2 x0 x1 xs0 x2 x3) := by
  unfold out0_C_4
  rw [View.read_writes_junk_eq_canon]
  unfold kernelRun0_C
  dsimp only
  unfold kernelRun0_C.sl.v10 kernelRun0_C.sl.HS0_1
  rw [View.canon_unit_zero hz, View.readCov_cons_toLoadRect, View.readAt_eq_ld, View.readAt_eq_ld, View.readAt_eq_ld, View.readAt_eq_ld, View.readAt_eq_ld, harg4.read_unread, harg5.read_unread, harg6.read_unread, harg7.read_unread, harg9.read_unread,
    View.ld_unit_zero (S := S512x1024) hz, View.ld_unit_zero (S := S1x1024x1792) hz3, View.ld_unit_zero (S := S1x1024x1792) hz3, View.ld_unit_zero (S := S1x1792x1024) hz3, View.ld_unit_zero (S := S512x1024) hz]

/-- A second point of an unused block: the scratch, rounded. -/
theorem out_D (c : Dev nD) (i : grid0.Coords) (arg4 : Memref sig .tc .vmem S512x1024 .bf16) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc2 : cond0_2 i)
    (x0 : Vec F S512x1024 .bf16) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) :
    out0_D_4 c i arg4 harg4 arg5 harg5 arg6 harg6 arg7 harg7 arg8 harg8 arg9 harg9 hc0 hc2 x0 x1 x2 x3 xt0 xt1 xs0 hc1 = k0_pay3 xs0 := by
  unfold out0_D_4
  rw [View.read_writes_junk_eq_canon]
  unfold kernelRun0_D
  dsimp only
  rw [View.canon_unit_zero hz, View.readAt_eq_ld, harg9.read_unread, View.ld_unit_zero hz]

/-! ## The table of the blocks' experts -/

/-- The table's word of block `q`. -/
def word (pf : pre0.Contents (Elt F)) (q : Fin 264) : BitVec 32 := (pf 0 : S264.Idx → BitVec 32) (ix1 q)

theorem at_word (pf : pre0.Contents (Elt F)) (i : grid0.Coords) :
    pf.at 0 (Rect.unit (s := S264) (k0_off1 i) S1.size (k0_off1_inb i)) numel1_S1 = word pf (i 0) := by
  refine congrArg (pf 0 : S264.Idx → BitVec 32) (funext fun a => Fin.ext ?_)
  match a with
  | ⟨0, _⟩ =>
    have hi : (i 0).val < 264 := (i 0).isLt
    show (BitVec.ofNat 32 (i 0).val).toNat + 1 * 0 = (i 0).val
    rw [BitVec.toNat_ofNat]; omega

theorem coord_toNat (i : grid0.Coords) : (BitVec.ofNat 32 (i 1).val).toNat = (i 1).val := by
  have hi : (i 1).val < 2 := (i 1).isLt
  rw [BitVec.toNat_ofNat]; omega

theorem tr1 (pf : pre0.Contents (Elt F)) (i : grid0.Coords) :
    cc0_transform_1 k0_off1_inb numel1_S1 pf i = ![(word pf (i 0)).toNat, 0, (i 1).val] := by
  show ![(pf.at 0 (Rect.unit (s := S264) (k0_off1 i) S1.size (k0_off1_inb i)) numel1_S1 : BitVec 32).toNat, 0, (BitVec.ofNat 32 (i 1).val).toNat] = _
  rw [at_word, coord_toNat]
theorem tr2 (pf : pre0.Contents (Elt F)) (i : grid0.Coords) :
    cc0_transform_2 k0_off1_inb numel1_S1 pf i = ![(word pf (i 0)).toNat, 0, (i 1).val] := tr1 pf i
theorem tr3 (pf : pre0.Contents (Elt F)) (i : grid0.Coords) :
    cc0_transform_3 k0_off1_inb numel1_S1 pf i = ![(word pf (i 0)).toNat, (i 1).val, 0] := by
  show ![(pf.at 0 (Rect.unit (s := S264) (k0_off1 i) S1.size (k0_off1_inb i)) numel1_S1 : BitVec 32).toNat, (BitVec.ofNat 32 (i 1).val).toNat, 0] = _
  rw [at_word, coord_toNat]

/-- Where every word of the table names one of the eight experts, every block lies inside its array. -/
theorem ok_of_words (pf : pre0.Contents (Elt F)) (h : ∀ q : Fin 264, (word pf q).toNat < 8) : ok0 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · have h0 := h (i 0)
    have h1 : (i 1).val < 2 := (i 1).isLt
    rw [tr1]
    intro a
    match a with
    | ⟨0, _⟩ => show ((word pf (i 0)).toNat + 1) * 1 ≤ 8; omega
    | ⟨1, _⟩ => show (0 + 1) * 1024 ≤ 1024; omega
    | ⟨2, _⟩ => show ((i 1).val + 1) * 1792 ≤ 3584; omega
  · have h0 := h (i 0)
    have h1 : (i 1).val < 2 := (i 1).isLt
    rw [tr2]
    intro a
    match a with
    | ⟨0, _⟩ => show ((word pf (i 0)).toNat + 1) * 1 ≤ 8; omega
    | ⟨1, _⟩ => show (0 + 1) * 1024 ≤ 1024; omega
    | ⟨2, _⟩ => show ((i 1).val + 1) * 1792 ≤ 3584; omega
  · have h0 := h (i 0)
    have h1 : (i 1).val < 2 := (i 1).isLt
    rw [tr3]
    intro a
    match a with
    | ⟨0, _⟩ => show ((word pf (i 0)).toNat + 1) * 1 ≤ 8; omega
    | ⟨1, _⟩ => show ((i 1).val + 1) * 1792 ≤ 3584; omega
    | ⟨2, _⟩ => show (0 + 1) * 1024 ≤ 1024; omega

/-- … and the words do, where the blocks lie inside. -/
theorem word_lt (pf : pre0.Contents (Elt F)) (h : ok0 pf) (i : grid0.Coords) : (word pf (i 0)).toNat < 8 := by
  obtain ⟨h1, _⟩ := h.1 i
  have h0 := h1 (0 : Fin 3)
  rw [tr1] at h0
  have h2 : ((word pf (i 0)).toNat + 1) * 1 ≤ 8 := h0
  omega

/-! ## The blocks -/

variable (m : (ℓ : Loc nD τ sig) → Buf (Elt F) ℓ)

theorem c0 (t : Fin grid0.N) : (grid0.coords t 0).val = t.val / 2 := by
  have ht : t.val < 528 := Nat.lt_of_lt_of_eq t.isLt N_0
  have e0 : (grid0.coords t 0).val = t.val / 2 % 264 := Pipeline.Grid.coords_val t 0 (by decide) rfl
  omega
theorem c1 (t : Fin grid0.N) : (grid0.coords t 1).val = t.val % 2 := by
  have e0 : (grid0.coords t 1).val = t.val / 1 % 2 := Pipeline.Grid.coords_val t 1 (by decide) rfl
  omega

/-- The block of rows of point `t`, the rows and hidden columns it reads, and its expert. -/
def bk (t : Fin grid0.N) : Fin 264 := grid0.coords t 0
theorem bk_val (t : Fin grid0.N) : (bk t).val = t.val / 2 := c0 t
def row (q : Fin 264) (p : Fin 512) : Fin 135168 := ⟨q.val * 512 + p.val, by omega⟩
def hid (f : Nat) (hf : f < 2) (x : Fin 1792) : Fin 3584 := ⟨1792 * f + x.val, by omega⟩
def ex (hO : Ok m) (t : Fin grid0.N) : Fin 8 := ⟨(word (tbl m) (bk t)).toNat, word_lt (tbl m) hO (grid0.coords t)⟩

theorem mod2 (n : Nat) : n % 2 < 2 := Nat.mod_lt _ (by decide)

theorem idx0 (t : Fin grid0.N) : cc0_transform_0 (grid0.coords t) = ![t.val / 2, 0] := by
  have h := c0 t
  have hi : (grid0.coords t 0).val < 264 := (grid0.coords t 0).isLt
  show ![(BitVec.ofNat 32 (grid0.coords t 0).val).toNat, 0] = _
  rw [BitVec.toNat_ofNat, Nat.mod_eq_of_lt (by omega), h]

theorem emb0 (hO : Ok m) (t : Fin (cfgM m hO).N) (j : S512x1024.Idx) : (((cfgM m hO).win 0).blk t).view.emb j = ix2 (row (bk t) (j 0)) (j 1) := by
  have e := bk_val t
  funext a; apply Fin.ext
  match a with
  | ⟨0, _⟩ => show cc0_transform_0 (grid0.coords t) (0 : Fin 2) * 512 + 1 * (j 0).val = (bk t).val * 512 + (j 0).val; rw [idx0]; show t.val / 2 * 512 + _ = _; omega
  | ⟨1, _⟩ => show cc0_transform_0 (grid0.coords t) (1 : Fin 2) * 1024 + 1 * (j 1).val = (j 1).val; rw [idx0]; show 0 * 1024 + _ = _; omega
theorem emb4 (hO : Ok m) (t : Fin (cfgM m hO).N) (j : S512x1024.Idx) : (((cfgM m hO).win 4).blk t).view.emb j = ix2 (row (bk t) (j 0)) (j 1) :=
  emb0 m hO t j
theorem emb1 (hO : Ok m) (t : Fin (cfgM m hO).N) (j : S1x1024x1792.Idx) : (((cfgM m hO).win 1).blk t).view.emb j = ix3 (ex m hO t) (j 1) (hid (t.val % 2) (mod2 _) (j 2)) := by
  have e := c1 t
  have hj : (j 0).val < 1 := (j 0).isLt
  funext a; apply Fin.ext
  match a with
  | ⟨0, _⟩ =>
    show cc0_transform_1 k0_off1_inb numel1_S1 (tbl m) (grid0.coords t) (0 : Fin 3) * 1 + 1 * (j 0).val = (word (tbl m) (bk t)).toNat
    rw [tr1]; show (word (tbl m) (bk t)).toNat * 1 + _ = _; omega
  | ⟨1, _⟩ =>
    show cc0_transform_1 k0_off1_inb numel1_S1 (tbl m) (grid0.coords t) (1 : Fin 3) * 1024 + 1 * (j 1).val = (j 1).val
    rw [tr1]; show 0 * 1024 + _ = _; omega
  | ⟨2, _⟩ =>
    show cc0_transform_1 k0_off1_inb numel1_S1 (tbl m) (grid0.coords t) (2 : Fin 3) * 1792 + 1 * (j 2).val = 1792 * (t.val % 2) + (j 2).val
    rw [tr1]; show (grid0.coords t 1).val * 1792 + _ = _; omega
theorem emb2 (hO : Ok m) (t : Fin (cfgM m hO).N) (j : S1x1024x1792.Idx) : (((cfgM m hO).win 2).blk t).view.emb j = ix3 (ex m hO t) (j 1) (hid (t.val % 2) (mod2 _) (j 2)) :=
  emb1 m hO t j
theorem emb3 (hO : Ok m) (t : Fin (cfgM m hO).N) (j : S1x1792x1024.Idx) : (((cfgM m hO).win 3).blk t).view.emb j = ix3 (ex m hO t) (hid (t.val % 2) (mod2 _) (j 1)) (j 2) := by
  have e := c1 t
  have hj : (j 0).val < 1 := (j 0).isLt
  funext a; apply Fin.ext
  match a with
  | ⟨0, _⟩ =>
    show cc0_transform_3 k0_off1_inb numel1_S1 (tbl m) (grid0.coords t) (0 : Fin 3) * 1 + 1 * (j 0).val = (word (tbl m) (bk t)).toNat
    rw [tr3]; show (word (tbl m) (bk t)).toNat * 1 + _ = _; omega
  | ⟨1, _⟩ =>
    show cc0_transform_3 k0_off1_inb numel1_S1 (tbl m) (grid0.coords t) (1 : Fin 3) * 1792 + 1 * (j 1).val = 1792 * (t.val % 2) + (j 1).val
    rw [tr3]; show (grid0.coords t 1).val * 1792 + _ = _; omega
  | ⟨2, _⟩ =>
    show cc0_transform_3 k0_off1_inb numel1_S1 (tbl m) (grid0.coords t) (2 : Fin 3) * 1024 + 1 * (j 2).val = (j 2).val
    rw [tr3]; show 0 * 1024 + _ = _; omega

theorem V0 (c : Dev nD) : V m c main_v0 = truncf .bf16 (m ((c : Thread nD τ).loc main_arg0)) bitsLt_bf16_f32 := by
  unfold V hostOps0; after_results <;> rfl
theorem V1 (c : Dev nD) : V m c main_v1 = truncf .bf16 (m ((c : Thread nD τ).loc main_arg3)) bitsLt_bf16_f32 := by
  unfold V hostOps0; after_results <;> rfl
theorem V2 (c : Dev nD) : V m c main_v2 = truncf .bf16 (m ((c : Thread nD τ).loc main_arg4)) bitsLt_bf16_f32 := by
  unfold V hostOps0; after_results <;> rfl
theorem V3 (c : Dev nD) : V m c main_v3 = truncf .bf16 (m ((c : Thread nD τ).loc main_arg5)) bitsLt_bf16_f32 := by
  unfold V hostOps0; after_results <;> rfl

/-- A block of 512 rows of `x`, and one half of an expert's weights. -/
def xRows (x : FVec F S135168x1024 .f32) (q : Fin 264) : Vec F S512x1024 .bf16 := fun j =>
  truncf .bf16 x bitsLt_bf16_f32 (ix2 (row q (j 0)) (j 1))
def wIn (w : FVec F S8x1024x3584 .f32) (e : Fin 8) (f : Nat) (hf : f < 2) : Vec F S1x1024x1792 .bf16 := fun j =>
  truncf .bf16 w bitsLt_bf16_f32 (ix3 e (j 1) (hid f hf (j 2)))
def wOut (w : FVec F S8x3584x1024 .f32) (e : Fin 8) (f : Nat) (hf : f < 2) : Vec F S1x1792x1024 .bf16 := fun j =>
  truncf .bf16 w bitsLt_bf16_f32 (ix3 e (hid f hf (j 1)) (j 2))

theorem iblk0 (hO : Ok m) (c : Dev nD) (t : Fin (cfgM m hO).N) : iblk m hO c 0 t = xRows (m ((c : Thread nD τ).loc main_arg0)) (bk t) := by
  funext j; exact (congrArg (fun k : S135168x1024.Idx => V m c main_v0 k) (emb0 m hO t j)).trans (congrFun (V0 m c) _)
theorem iblk1 (hO : Ok m) (c : Dev nD) (t : Fin (cfgM m hO).N) : iblk m hO c 1 t = wIn (m ((c : Thread nD τ).loc main_arg3)) (ex m hO t) (t.val % 2) (mod2 _) := by
  funext j; exact (congrArg (fun k : S8x1024x3584.Idx => V m c main_v1 k) (emb1 m hO t j)).trans (congrFun (V1 m c) _)
theorem iblk2 (hO : Ok m) (c : Dev nD) (t : Fin (cfgM m hO).N) : iblk m hO c 2 t = wIn (m ((c : Thread nD τ).loc main_arg4)) (ex m hO t) (t.val % 2) (mod2 _) := by
  funext j; exact (congrArg (fun k : S8x1024x3584.Idx => V m c main_v2 k) (emb2 m hO t j)).trans (congrFun (V2 m c) _)
theorem iblk3 (hO : Ok m) (c : Dev nD) (t : Fin (cfgM m hO).N) : iblk m hO c 3 t = wOut (m ((c : Thread nD τ).loc main_arg5)) (ex m hO t) (t.val % 2) (mod2 _) := by
  funext j; exact (congrArg (fun k : S8x3584x1024.Idx => V m c main_v3 k) (emb3 m hO t j)).trans (congrFun (V3 m c) _)

/-! ## What the two points of a block leave -/

/-- A block of rows is in use where its number is below the count of blocks in use. -/
def inUse (m : (ℓ : Loc nD τ sig) → Buf (Elt F) ℓ) (q : Fin 264) : Prop :=
  Scalar.cmpi .slt (BitVec.ofNat 32 q.val) ((tbl m 1 : S1.Idx → BitVec 32) (ix1 0)) = 1#1

theorem ne_ext : ∀ b : BitVec 1, (Scalar.cmpi .ne (Scalar.extui b : BitVec 32) 0#32 = 1#1) ↔ b = 1#1 := by decide

theorem count_eq : (tbM0_1.view.readAt (Elt F) (Rect.unit (s := S1) ![0] S1.size inb_S1_S1_0).toLoadRect (tbl m 1) (Shape.Idx.first (numel1_S1.symm ▸ Nat.one_pos)) : BitVec 32)
    = (tbl m 1 : S1.Idx → BitVec 32) (ix1 0) := by
  refine congrArg (tbl m 1 : S1.Idx → BitVec 32) (funext fun a => Fin.ext ?_)
  match a with
  | ⟨0, _⟩ => rfl

theorem cond_iff (t : Fin grid0.N) : cond0_1 (grid0.coords t) (tbM0_1.view.readAt (Elt F) (Rect.unit (s := S1) ![0] S1.size inb_S1_S1_0).toLoadRect (tbl m 1) (Shape.Idx.first (numel1_S1.symm ▸ Nat.one_pos))) ↔ inUse m (bk t) := by
  rw [count_eq]
  exact ne_ext _

/-- What the second point of a block in use leaves: the two halves of the sum over the hidden columns, rounded. -/
def blockOut (x : FVec F S135168x1024 .f32) (w1 w3 : FVec F S8x1024x3584 .f32) (w2 : FVec F S8x3584x1024 .f32) (q : Fin 264) (e : Fin 8) : Vec F S512x1024 .bf16 :=
  k0_pay3 (k0_pay2 (xRows x q) (wIn w1 e 1 (by decide))
    (k0_pay2 (xRows x q) (wIn w1 e 0 (by decide)) k0_pay1 (wIn w3 e 0 (by decide)) (wOut w2 e 0 (by decide)))
    (wIn w3 e 1 (by decide)) (wOut w2 e 1 (by decide)))

theorem wIn_congr (w : FVec F S8x1024x3584 .f32) {e e' : Fin 8} (he : e = e') {f f' : Nat} (h : f = f') (hf : f < 2) (hf' : f' < 2) : wIn w e f hf = wIn w e' f' hf' := by
  subst he h; rfl
theorem wOut_congr (w : FVec F S8x3584x1024 .f32) {e e' : Fin 8} (he : e = e') {f f' : Nat} (h : f = f') (hf : f < 2) (hf' : f' < 2) : wOut w e f hf = wOut w e' f' hf' := by
  subst he h; rfl

/-- The point before an odd one: the same block, the first half. -/
theorem bk_pred (t t' : Fin grid0.N) (h : t.val % 2 = 1) (ht : t'.val = t.val - 1) : bk t' = bk t := by
  apply Fin.ext; rw [bk_val, bk_val]; omega

theorem pay2_congr {x0 x0' : Vec F S512x1024 .bf16} {x1 x1' x2 x2' : Vec F S1x1024x1792 .bf16} {x3 x3' : Vec F S1x1792x1024 .bf16} {a a' : Vec F S512x1024 .f32}
    (h0 : x0 = x0') (h1 : x1 = x1') (ha : a = a') (h2 : x2 = x2') (h3 : x3 = x3') : k0_pay2 x0 x1 a x2 x3 = k0_pay2 x0' x1' a' x2' x3' := by
  rw [h0, h1, ha, h2, h3]

theorem snd_congr (hO : Ok m) (c : Dev nD) {n n' : Nat} (h : n = n') (hn : n < (cfgM m hO).N) (hn' : n' < (cfgM m hO).N) :
    (outsAt0 m hO c n hn).2 = (outsAt0 m hO c n' hn').2 := by
  subst h; rfl

theorem scr_used (hO : Ok m) (c : Dev nD) (t : Fin (cfgM m hO).N) (h : t.val % 2 = 0) (hu : inUse m (bk t)) :
    (outsAt0 m hO c t.val t.isLt).2 = k0_pay2 (xRows (m ((c : Thread nD τ).loc main_arg0)) (bk t)) (wIn (m ((c : Thread nD τ).loc main_arg3)) (ex m hO t) 0 (by decide)) k0_pay1
      (wIn (m ((c : Thread nD τ).loc main_arg4)) (ex m hO t) 0 (by decide)) (wOut (m ((c : Thread nD τ).loc main_arg5)) (ex m hO t) 0 (by decide)) := by
  rw [outsAt0_A m hO c t h ((cond_iff m t).2 hu) (by omega)]
  dsimp only
  refine (sout_A _ _ _ _ _ _ _ _ _ _ _ _ _ _ _ _ _ _ _ _ _ _ _).trans ?_
  refine pay2_congr ?_ ?_ rfl ?_ ?_
  · exact iblk0 m hO c t
  · exact (iblk1 m hO c t).trans (wIn_congr _ rfl h _ _)
  · exact (iblk2 m hO c t).trans (wIn_congr _ rfl h _ _)
  · exact (iblk3 m hO c t).trans (wOut_congr _ rfl h _ _)

theorem scr_unused (hO : Ok m) (c : Dev nD) (t : Fin (cfgM m hO).N) (h : t.val % 2 = 0) (hu : ¬inUse m (bk t)) :
    (outsAt0 m hO c t.val t.isLt).2 = k0_pay1 := by
  rw [outsAt0_B m hO c t h (fun h' => hu ((cond_iff m t).1 h')) (by omega)]
  dsimp only
  exact sout_B _ _ _ _ _ _ _ _ _ _ _ _ _ _ _ _ _ _ _ _ _ _ _

theorem outs_used (hO : Ok m) (c : Dev nD) (t : Fin (cfgM m hO).N) (h : t.val % 2 = 1) (hu : inUse m (bk t)) :
    (outsAt0 m hO c t.val t.isLt).1 = blockOut (m ((c : Thread nD τ).loc main_arg0)) (m ((c : Thread nD τ).loc main_arg3)) (m ((c : Thread nD τ).loc main_arg4)) (m ((c : Thread nD τ).loc main_arg5)) (bk t) (ex m hO t) := by
  obtain ⟨t', ht'⟩ : ∃ t' : Fin (cfgM m hO).N, t'.val = t.val - 1 := ⟨⟨t.val - 1, by have := t.isLt; omega⟩, rfl⟩
  have hb : bk t' = bk t := bk_pred t t' h ht'
  have he : ex m hO t' = ex m hO t := Fin.ext (congrArg (fun q => (word (tbl m) q).toNat) hb)
  have e := scr_used m hO c t' (by omega) (hb ▸ hu)
  rw [he, hb] at e
  rw [outsAt0_C m hO c t (by omega) ((cond_iff m t).2 hu) h]
  dsimp only
  refine (out_C _ _ _ _ _ _ _ _ _ _ _ _ _ _ _ _ _ _ _ _ _ _ _ _).trans ?_
  refine congrArg k0_pay3 (pay2_congr ?_ ?_ ?_ ?_ ?_)
  · exact iblk0 m hO c t
  · exact (iblk1 m hO c t).trans (wIn_congr _ rfl h _ _)
  · exact (snd_congr m hO c ht'.symm _ _).trans e
  · exact (iblk2 m hO c t).trans (wIn_congr _ rfl h _ _)
  · exact (iblk3 m hO c t).trans (wOut_congr _ rfl h _ _)

theorem outs_unused (hO : Ok m) (c : Dev nD) (t : Fin (cfgM m hO).N) (h : t.val % 2 = 1) (hu : ¬inUse m (bk t)) :
    (outsAt0 m hO c t.val t.isLt).1 = k0_pay3 k0_pay1 := by
  obtain ⟨t', ht'⟩ : ∃ t' : Fin (cfgM m hO).N, t'.val = t.val - 1 := ⟨⟨t.val - 1, by have := t.isLt; omega⟩, rfl⟩
  have hb : bk t' = bk t := bk_pred t t' h ht'
  have e := scr_unused m hO c t' (by omega) (hb.symm ▸ hu)
  rw [outsAt0_D m hO c t (by omega) (fun h' => hu ((cond_iff m t).1 h')) h]
  dsimp only
  refine (out_D _ _ _ _ _ _ _ _ _ _ _ _ _ _ _ _ _ _ _ _ _ _ _ _).trans ?_
  exact congrArg k0_pay3 ((snd_congr m hO c ht'.symm _ _).trans e)

/-- Every row is in a block that an odd point writes back. -/
theorem covered4 (hO : Ok m) (i : S135168x1024.Idx) : ∃ t : Fin (cfgM m hO).N, ((cfgM m hO).win 4).flush t = true ∧ i ∈ (((cfgM m hO).win 4).blk t).view.set := by
  obtain ⟨r, hr⟩ : ∃ r : Fin 135168, r = i 0 := ⟨_, rfl⟩
  have hN : (cfgM m hO).N = 528 := N_0
  obtain ⟨t, ht⟩ : ∃ t : Fin (cfgM m hO).N, t.val = 2 * (r.val / 512) + 1 := ⟨⟨2 * (r.val / 512) + 1, by omega⟩, rfl⟩
  have hb : (bk t).val = r.val / 512 := by rw [bk_val]; omega
  refine ⟨t, (flush0_4 (adm m hO) t).2 (by omega), ?_⟩
  have h := (((cfgM m hO).win 4).blk t).view.emb_mem_set (ix2 (⟨r.val % 512, Nat.mod_lt _ (by decide)⟩ : Fin 512) (i 1))
  rw [emb4] at h
  refine Eq.mpr (congrArg (· ∈ (((cfgM m hO).win 4).blk t).view.set) (funext fun a => Fin.ext ?_)) h
  match a with
  | ⟨0, _⟩ => show (i 0).val = (bk t).val * 512 + r.val % 512; rw [← hr]; omega
  | ⟨1, _⟩ => rfl

end Run

end Cert.Proof.Experts

end
-- ==== Proof.Experts.lean ====
/-
  The experts on the dispatched rows: the array that the kernel leaves is the array that the reference leaves, element by
  element, over the extended reals, where every block's word names one of the eight experts.
-/
module

public import proofs.«01_k».proof.Defs
public import proofs.«01_k».proof.Proof.ExpertsRun
public import proofs.«01_k».proof.Proof.Gen.Kernel5.Frame
public import proofs.«01_k».proof.Proof.Gen.Reference5Ideal.Run
public import proofs.«01_k».proof.Proof.Gen.Pre_names_experts
public import Idealize.ShloMosaic.Lib.Pointwise
public import Idealize.ShloMosaic.Lib.StableHlo.Predicate

@[expose] public section

set_option maxRecDepth 16384

noncomputable section

namespace Cert.Proof.Experts

open Cert.Kernel5Ideal Cert.Kernel5Ideal.Gen Idealize.ShloMosaic Idealize.ShloMosaic.TcCoe Idealize.SL.Sem
open scoped BigOperators

/-! ## The precondition -/

theorem andi_one : ∀ a b : BitVec 1, IntOp.andi a b = 1#1 → a = 1#1 ∧ b = 1#1 := by decide

section Pre
variable {F : FTy → Type} [FloatOps F]

/-- Words that the precondition passes are below 8. -/
theorem words_lt (a0 : FVec F S135168x1024 .f32) (a1 : IVec S264 32) (a2 : IVec S1 32) (a3 a4 : FVec F S8x1024x3584 .f32) (a5 : FVec F S8x3584x1024 .f32)
    (h : Cert.Pre_names_experts.fn (F := F) a0 a1 a2 a3 a4 a5 = fun _ => 1#1) (q : Fin 264) : (a1 (ix1 q)).toNat < 8 := by
  have e := congrFun h (ix1 q)
  obtain ⟨e1, e2⟩ := andi_one _ _ e
  have f1 : (0#32).sle (a1 (ix1 q)) = true := (StableHlo.Predicate.ofBool_eq_one_iff _).1 e1
  have f2 : (a1 (ix1 q)).sle 7#32 = true := (StableHlo.Predicate.ofBool_eq_one_iff _).1 e2
  rw [BitVec.sle_eq_decide, decide_eq_true_eq] at f1 f2
  have h0 : (0#32).toInt = 0 := rfl
  have h7 : (7#32).toInt = 7 := rfl
  rw [h0, BitVec.toInt_eq_toNat_cond] at f1
  rw [h7, BitVec.toInt_eq_toNat_cond] at f2
  have hl := (a1 (ix1 q)).isLt
  split at f1 <;> omega

end Pre

/-- So every block lies inside its array, in both programs. -/
theorem ok (m : (ℓ : Loc nD τ sig) → Buf (Elt Ideal) ℓ) (h : Cert.Pre_Kernel5Ideal m) : Ok (F := Ideal) m :=
  ok_of_words _ fun q => words_lt _ _ _ _ _ _ (h 0) q
theorem ok_bits (m : (ℓ : Loc Cert.Kernel5.nD Cert.Kernel5.τ Cert.Kernel5.sig) → Buf (Elt Bits) ℓ) (h : Cert.Pre_Kernel5 m) : Cert.Kernel5.Gen.Ok (F := Bits) m :=
  ok_of_words (F := Bits) (Cert.Kernel5.Gen.tbl m) fun q => words_lt _ _ _ _ _ _ (h 0) q

/-! ## The reference's reading of an expert's weights -/

/-- `w[e]` for a list of 264 starts `e`, the whole of the two other axes. -/
abbrev pick (R C : Nat) (wf : GatherDims.WF ⟨3, ![8, R, C]⟩ ⟨2, ![264, 3]⟩ ⟨4, ![264, 1, R, C]⟩ [1, 2, 3] [] [] [0, 1, 2] [] 1 ![1, R, C]) :
    GatherDims ⟨3, ![8, R, C]⟩ ⟨2, ![264, 3]⟩ ⟨4, ![264, 1, R, C]⟩ where
  offsetDims := [1, 2, 3]
  collapsedSliceDims := []
  operandBatchingDims := []
  startIndicesBatchingDims := []
  startIndexMap := [0, 1, 2]
  indexVectorDim := 1
  sliceSizes := ![1, R, C]
  wf := wf

theorem pick_apply {α : Type} {R C : Nat} (wf : GatherDims.WF ⟨3, ![8, R, C]⟩ ⟨2, ![264, 3]⟩ ⟨4, ![264, 1, R, C]⟩ [1, 2, 3] [] [] [0, 1, 2] [] 1 ![1, R, C])
    (x : (⟨3, ![8, R, C]⟩ : Shape).Idx → α) (idx : IVec ⟨2, ![264, 3]⟩ 32) (b : Fin 264) (o : Fin 1) (y : Fin R) (z : Fin C) (e : Fin 8)
    (he : idx (ix2 b (0 : Fin 3)) = BitVec.ofNat 32 e.val) : Host.gather (pick R C wf) x idx (ix4 b o y z) = x (ix3 e y z) := by
  unfold Host.gather
  refine congrArg x (funext fun a => Fin.ext ?_)
  show (pick R C wf).start (ix4 b o y z) idx a + (pick R C wf).batchCoord (ix4 b o y z) a + (pick R C wf).offCoord (ix4 b o y z) a = _
  rw [GatherDims.batchCoord_eq_zero _ _ _ List.not_mem_nil, Nat.add_zero]
  have hs : ∀ (h : (0 : Fin 3) ∈ (pick R C wf).startIndexMap), (pick R C wf).siIdx (ix4 b o y z) ⟨List.idxOf (0 : Fin 3) (pick R C wf).startIndexMap,
      List.idxOf_lt_length_iff.2 h⟩ = ix2 b (0 : Fin 3) := fun h => by
    funext k; refine Fin.ext ?_
    match k with
    | ⟨0, _⟩ => rfl
    | ⟨1, _⟩ => rfl
  match a with
  | ⟨0, _⟩ =>
    have ho : (pick R C wf).offCoord (ix4 b o y z) (0 : Fin 3) = o.val := rfl
    have h0 : (0 : Fin 3) ∈ (pick R C wf).startIndexMap := List.mem_cons_self
    have he8 := e.isLt
    show (pick R C wf).start (ix4 b o y z) idx (0 : Fin 3) + (pick R C wf).offCoord (ix4 b o y z) (0 : Fin 3) = e.val
    rw [ho]
    unfold GatherDims.start
    rw [dif_pos h0, hs h0, he, StableHlo.Predicate.toInt_ofNat_small _ (by omega)]
    show min ((e.val : Int)).toNat (8 - 1) + o.val = e.val
    omega
  | ⟨1, _⟩ =>
    have ho : (pick R C wf).offCoord (ix4 b o y z) (1 : Fin 3) = y.val := rfl
    have hst : (pick R C wf).start (ix4 b o y z) idx (1 : Fin 3) ≤ R - R := (pick R C wf).start_le _ _ _
    show (pick R C wf).start (ix4 b o y z) idx (1 : Fin 3) + (pick R C wf).offCoord (ix4 b o y z) (1 : Fin 3) = y.val
    omega
  | ⟨2, _⟩ =>
    have ho : (pick R C wf).offCoord (ix4 b o y z) (2 : Fin 3) = z.val := rfl
    have hst : (pick R C wf).start (ix4 b o y z) idx (2 : Fin 3) ≤ C - C := (pick R C wf).start_le _ _ _
    show (pick R C wf).start (ix4 b o y z) idx (2 : Fin 3) + (pick R C wf).offCoord (ix4 b o y z) (2 : Fin 3) = z.val
    omega

/-- The list of starts that the reference makes of the table: the word, and two zeros. -/
def startsIn (a1 : IVec S264 32) : IVec Cert.Reference5Ideal.S264x3 32 :=
  (concatenate Cert.Reference5Ideal.S264x3 1 [⟨Cert.Reference5Ideal.S264x1, (broadcastInDim Cert.Reference5Ideal.S264x1 ![0] Cert.Reference5Ideal.Gen.bcast_S264_S264x1_0 (select (cmpi .slt a1 (broadcastInDim Cert.Reference5Ideal.S264 ![] Cert.Reference5Ideal.Gen.bcast_S_S264 (constantI Cert.Reference5Ideal.S_ 32 0#32))) (addi a1 (broadcastInDim Cert.Reference5Ideal.S264 ![] Cert.Reference5Ideal.Gen.bcast_S_S264 (constantI Cert.Reference5Ideal.S_ 32 8#32))) a1))⟩, ⟨Cert.Reference5Ideal.S264x1, (broadcastInDim Cert.Reference5Ideal.S264x1 ![] Cert.Reference5Ideal.Gen.bcast_S_S264x1 (select (cmpi .slt (constantI Cert.Reference5Ideal.S_ 32 0#32) (constantI Cert.Reference5Ideal.S_ 32 0#32)) (addi (constantI Cert.Reference5Ideal.S_ 32 0#32) (constantI Cert.Reference5Ideal.S_ 32 1024#32)) (constantI Cert.Reference5Ideal.S_ 32 0#32)))⟩, ⟨Cert.Reference5Ideal.S264x1, (broadcastInDim Cert.Reference5Ideal.S264x1 ![] Cert.Reference5Ideal.Gen.bcast_S_S264x1 (select (cmpi .slt (constantI Cert.Reference5Ideal.S_ 32 0#32) (constantI Cert.Reference5Ideal.S_ 32 0#32)) (addi (constantI Cert.Reference5Ideal.S_ 32 0#32) (constantI Cert.Reference5Ideal.S_ 32 3584#32)) (constantI Cert.Reference5Ideal.S_ 32 0#32)))⟩] Cert.Reference5Ideal.Gen.concatenates_S264x1_S264x1_S264x1_S264x3_d1)
def startsOut (a1 : IVec S264 32) : IVec Cert.Reference5Ideal.S264x3 32 :=
  (concatenate Cert.Reference5Ideal.S264x3 1 [⟨Cert.Reference5Ideal.S264x1, (broadcastInDim Cert.Reference5Ideal.S264x1 ![0] Cert.Reference5Ideal.Gen.bcast_S264_S264x1_0 (select (cmpi .slt a1 (broadcastInDim Cert.Reference5Ideal.S264 ![] Cert.Reference5Ideal.Gen.bcast_S_S264 (constantI Cert.Reference5Ideal.S_ 32 0#32))) (addi a1 (broadcastInDim Cert.Reference5Ideal.S264 ![] Cert.Reference5Ideal.Gen.bcast_S_S264 (constantI Cert.Reference5Ideal.S_ 32 8#32))) a1))⟩, ⟨Cert.Reference5Ideal.S264x1, (broadcastInDim Cert.Reference5Ideal.S264x1 ![] Cert.Reference5Ideal.Gen.bcast_S_S264x1 (select (cmpi .slt (constantI Cert.Reference5Ideal.S_ 32 0#32) (constantI Cert.Reference5Ideal.S_ 32 0#32)) (addi (constantI Cert.Reference5Ideal.S_ 32 0#32) (constantI Cert.Reference5Ideal.S_ 32 3584#32)) (constantI Cert.Reference5Ideal.S_ 32 0#32)))⟩, ⟨Cert.Reference5Ideal.S264x1, (broadcastInDim Cert.Reference5Ideal.S264x1 ![] Cert.Reference5Ideal.Gen.bcast_S_S264x1 (select (cmpi .slt (constantI Cert.Reference5Ideal.S_ 32 0#32) (constantI Cert.Reference5Ideal.S_ 32 0#32)) (addi (constantI Cert.Reference5Ideal.S_ 32 0#32) (constantI Cert.Reference5Ideal.S_ 32 1024#32)) (constantI Cert.Reference5Ideal.S_ 32 0#32)))⟩] Cert.Reference5Ideal.Gen.concatenates_S264x1_S264x1_S264x1_S264x3_d1)

theorem not_neg (v : BitVec 32) (h : v.toNat < 8) : Scalar.cmpi .slt v 0#32 = 0#1 := by
  have hv : v.slt 0#32 = false := by
    rw [BitVec.slt_eq_decide, decide_eq_false_iff_not, BitVec.toInt_eq_toNat_cond, if_pos (by omega)]
    have h0 : (0#32).toInt = 0 := rfl
    omega
  show BitVec.ofBool (v.slt 0#32) = 0#1
  rw [hv]; rfl

theorem select_one {α : Type} {c : BitVec 1} (h : c = 1#1) (x y : α) : Scalar.select c x y = x := by
  subst h; rfl
theorem select_ne {α : Type} {c : BitVec 1} (h : ¬c = 1#1) (x y : α) : Scalar.select c x y = y := by
  unfold Scalar.select; exact if_neg h

theorem startsIn_apply (a1 : IVec S264 32) (h : ∀ q : Fin 264, (a1 (ix1 q)).toNat < 8) (q : Fin 264) :
    startsIn a1 (ix2 q (0 : Fin 3)) = BitVec.ofNat 32 (a1 (ix1 q)).toNat := by
  unfold startsIn
  pointwise
  rw [select_ne (by rw [show IntOp.cmpi .slt (a1 (ix1 q)) 0#32 = 0#1 from not_neg _ (h q)]; decide), BitVec.ofNat_toNat, BitVec.setWidth_eq]
theorem startsOut_apply (a1 : IVec S264 32) (h : ∀ q : Fin 264, (a1 (ix1 q)).toNat < 8) (q : Fin 264) :
    startsOut a1 (ix2 q (0 : Fin 3)) = BitVec.ofNat 32 (a1 (ix1 q)).toNat := by
  unfold startsOut
  pointwise
  rw [select_ne (by rw [show IntOp.cmpi .slt (a1 (ix1 q)) 0#32 = 0#1 from not_neg _ (h q)]; decide), BitVec.ofNat_toNat, BitVec.setWidth_eq]

/-! ## The value -/

section Ideal

/-- The reference's result, as its run states it, of the weights it has read. -/
def H (a0 : FVec Ideal S135168x1024 .f32) (a2 : IVec S1 32) (w1 w3 : FVec Ideal Cert.Reference5Ideal.S264x1024x3584 .f32) (w2 : FVec Ideal Cert.Reference5Ideal.S264x3584x1024 .f32) : FVec Ideal S135168x1024 .bf16 :=
  truncf .bf16 (shapeCast S135168x1024 (select (broadcastInDim Cert.Reference5Ideal.S264x512x1024 ![0, 1, 2] Cert.Reference5Ideal.Gen.bcast_S264x1x1_S264x512x1024_0_1_2 (broadcastInDim Cert.Reference5Ideal.S264x1x1 ![0] Cert.Reference5Ideal.Gen.bcast_S264_S264x1x1_0 (cmpi .slt (iotaInDim Cert.Reference5Ideal.S264 32 0) (broadcastInDim Cert.Reference5Ideal.S264 ![] Cert.Reference5Ideal.Gen.bcast_S_S264 (shapeCast Cert.Reference5Ideal.S_ a2 Cert.Reference5Ideal.Gen.shapeCasts_S1_S_))))) (Host.dotGeneral Cert.Reference5Ideal.dot_S264x512x3584_S264x3584x1024_S264x512x1024_2_1_1_2_0_0 none (mulf (mulf (Host.dotGeneral Cert.Reference5Ideal.dot_S264x512x1024_S264x1024x3584_S264x512x3584_2_1_1_2_0_0 none (shapeCast Cert.Reference5Ideal.S264x512x1024 a0 Cert.Reference5Ideal.Gen.shapeCasts_S135168x1024_S264x512x1024) w1) (Host.divf (broadcastInDim Cert.Reference5Ideal.S264x512x3584 ![] Cert.Reference5Ideal.Gen.bcast_S_S264x512x3584 (constant Cert.Reference5Ideal.S_ .f32 0x3F800000#32)) (addf (broadcastInDim Cert.Reference5Ideal.S264x512x3584 ![] Cert.Reference5Ideal.Gen.bcast_S_S264x512x3584 (constant Cert.Reference5Ideal.S_ .f32 0x3F800000#32)) (Host.exp (Host.negf (Host.dotGeneral Cert.Reference5Ideal.dot_S264x512x1024_S264x1024x3584_S264x512x3584_2_1_1_2_0_0 none (shapeCast Cert.Reference5Ideal.S264x512x1024 a0 Cert.Reference5Ideal.Gen.shapeCasts_S135168x1024_S264x512x1024) w1)))))) (Host.dotGeneral Cert.Reference5Ideal.dot_S264x512x1024_S264x1024x3584_S264x512x3584_2_1_1_2_0_0 none (shapeCast Cert.Reference5Ideal.S264x512x1024 a0 Cert.Reference5Ideal.Gen.shapeCasts_S135168x1024_S264x512x1024) w3)) w2) (broadcastInDim Cert.Reference5Ideal.S264x512x1024 ![] Cert.Reference5Ideal.Gen.bcast_S_S264x512x1024 (id (constant Cert.Reference5Ideal.S_ .f32 0x00000000#32)))) Cert.Reference5Ideal.Gen.shapeCasts_S264x512x1024_S135168x1024) Cert.Reference5Ideal.Gen.bitsLt_bf16_f32
def readIn (a1 : IVec S264 32) (w : FVec Ideal S8x1024x3584 .f32) : FVec Ideal Cert.Reference5Ideal.S264x1024x3584 .f32 :=
  shapeCast Cert.Reference5Ideal.S264x1024x3584 (Host.gather Cert.Reference5Ideal.gather_S8x1024x3584_S264x3_S264x1x1024x3584_123_n_n_n_012_1_110243584 w (startsIn a1)) Cert.Reference5Ideal.Gen.shapeCasts_S264x1x1024x3584_S264x1024x3584
def readOut (a1 : IVec S264 32) (w : FVec Ideal S8x3584x1024 .f32) : FVec Ideal Cert.Reference5Ideal.S264x3584x1024 .f32 :=
  shapeCast Cert.Reference5Ideal.S264x3584x1024 (Host.gather Cert.Reference5Ideal.gather_S8x3584x1024_S264x3_S264x1x3584x1024_123_n_n_n_012_1_135841024 w (startsOut a1)) Cert.Reference5Ideal.Gen.shapeCasts_S264x1x3584x1024_S264x3584x1024
def G (a0 : FVec Ideal S135168x1024 .f32) (a1 : IVec S264 32) (a2 : IVec S1 32) (a3 a4 : FVec Ideal S8x1024x3584 .f32) (a5 : FVec Ideal S8x3584x1024 .f32) : FVec Ideal S135168x1024 .bf16 :=
  H a0 a2 (readIn a1 a3) (readIn a1 a4) (readOut a1 a5)

theorem G_eq (m : (ℓ : Loc Cert.Reference5Ideal.nD Cert.Reference5Ideal.τ Cert.Reference5Ideal.sig) → Buf (Elt Ideal) ℓ) (c : Dev Cert.Reference5Ideal.nD) :
    Cert.Reference5Ideal.Value.res_main_v64 m c = G (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) := rfl

/-- The expert that block `q`'s word names. -/
def exOf (a1 : IVec S264 32) (h : ∀ q : Fin 264, (a1 (ix1 q)).toNat < 8) (q : Fin 264) : Fin 8 := ⟨(a1 (ix1 q)).toNat, h q⟩

theorem readIn_eq (a1 : IVec S264 32) (h : ∀ q : Fin 264, (a1 (ix1 q)).toNat < 8) (w : FVec Ideal S8x1024x3584 .f32) :
    readIn a1 w = fun j : Cert.Reference5Ideal.S264x1024x3584.Idx => w (ix3 (exOf a1 h (j 0)) (j 1) (j 2)) := by
  funext j
  idx_vars j
  unfold readIn
  pointwise
  exact pick_apply _ w (startsIn a1) j0 0 j1 j2 (exOf a1 h j0) (startsIn_apply a1 h j0)
theorem readOut_eq (a1 : IVec S264 32) (h : ∀ q : Fin 264, (a1 (ix1 q)).toNat < 8) (w : FVec Ideal S8x3584x1024 .f32) :
    readOut a1 w = fun j : Cert.Reference5Ideal.S264x3584x1024.Idx => w (ix3 (exOf a1 h (j 0)) (j 1) (j 2)) := by
  funext j
  idx_vars j
  unfold readOut
  pointwise
  exact pick_apply _ w (startsOut a1) j0 0 j1 j2 (exOf a1 h j0) (startsOut_apply a1 h j0)

theorem sum_halves (f : Fin 3584 → EReal) : ∑ x, f x = ∑ x : Fin 1792, f ⟨x.val, by omega⟩ + ∑ x : Fin 1792, f ⟨1792 + x.val, by omega⟩ :=
  Fin.sum_univ_add (a := 1792) (b := 1792) f

/-- A block in use: the two halves of the kernel's sum are the reference's sum. -/
theorem block_used (a0 : FVec Ideal S135168x1024 .f32) (a2 : IVec S1 32) (a3 a4 : FVec Ideal S8x1024x3584 .f32) (a5 : FVec Ideal S8x3584x1024 .f32) (e : Fin 264 → Fin 8) (q : Fin 264)
    (hu : Scalar.cmpi .slt (BitVec.ofNat 32 q.val) (a2 (ix1 0)) = 1#1) (j : S512x1024.Idx) :
    blockOut (F := Ideal) a0 a3 a4 a5 q (e q) j
    = H a0 a2 (fun j : Cert.Reference5Ideal.S264x1024x3584.Idx => a3 (ix3 (e (j 0)) (j 1) (j 2))) (fun j : Cert.Reference5Ideal.S264x1024x3584.Idx => a4 (ix3 (e (j 0)) (j 1) (j 2)))
      (fun j : Cert.Reference5Ideal.S264x3584x1024.Idx => a5 (ix3 (e (j 0)) (j 1) (j 2))) (ix2 (row q (j 0)) (j 1)) := by
  idx_vars j
  unfold blockOut H k0_pay3 k0_pay2 k0_pay1 xRows wIn wOut row hid
  pointwise
  refine Eq.trans ?_ (select_one hu _ _).symm
  symm
  refine Eq.trans (sum_halves _) ?_
  rfl

/-- A block not in use: zeros. -/
theorem block_unused (a0 : FVec Ideal S135168x1024 .f32) (a2 : IVec S1 32) (w1 w3 : FVec Ideal Cert.Reference5Ideal.S264x1024x3584 .f32) (w2 : FVec Ideal Cert.Reference5Ideal.S264x3584x1024 .f32) (q : Fin 264)
    (hu : ¬Scalar.cmpi .slt (BitVec.ofNat 32 q.val) (a2 (ix1 0)) = 1#1) (j : S512x1024.Idx) :
    k0_pay3 (F := Ideal) (k0_pay1 (F := Ideal)) j = H a0 a2 w1 w3 w2 (ix2 (row q (j 0)) (j 1)) := by
  idx_vars j
  unfold H k0_pay3 k0_pay1 row
  pointwise
  refine Eq.trans ?_ (select_ne hu _ _).symm
  show _ = (constant Cert.Reference5Ideal.S_ FTy.f32 0#32 : FVec Ideal Cert.Reference5Ideal.S_ .f32) ix0
  pointwise

theorem H_congr (a0 : FVec Ideal S135168x1024 .f32) (a2 : IVec S1 32) {w1 w1' w3 w3' : FVec Ideal Cert.Reference5Ideal.S264x1024x3584 .f32} {w2 w2' : FVec Ideal Cert.Reference5Ideal.S264x3584x1024 .f32}
    (h1 : w1 = w1') (h3 : w3 = w3') (h2 : w2 = w2') : H a0 a2 w1 w3 w2 = H a0 a2 w1' w3' w2' := by rw [h1, h3, h2]

theorem outs_eq (m : (ℓ : Loc nD τ sig) → Buf (Elt Ideal) ℓ) (c : Dev nD) (hw : ∀ q : Fin 264, ((m ((c : Thread nD τ).loc main_arg1) : IVec S264 32) (ix1 q)).toNat < 8)
    (hO : Ok m) (t : Fin (cfgM m hO).N) (h : t.val % 2 = 1) (j : S512x1024.Idx) :
    (outsAt0 m hO c t.val t.isLt).1 j = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (row (bk t) (j 0)) (j 1)) := by
  obtain rfl : c = 0 := Subsingleton.elim _ _
  have hG := congrFun (H_congr (m (((0 : Dev nD) : Thread nD τ).loc main_arg0)) (m (((0 : Dev nD) : Thread nD τ).loc main_arg2))
    (readIn_eq _ hw (m (((0 : Dev nD) : Thread nD τ).loc main_arg3))) (readIn_eq _ hw (m (((0 : Dev nD) : Thread nD τ).loc main_arg4)))
    (readOut_eq _ hw (m (((0 : Dev nD) : Thread nD τ).loc main_arg5)))) (ix2 (row (bk t) (j 0)) (j 1))
  refine Eq.trans ?_ hG.symm
  by_cases hu : inUse m (bk t)
  · exact (congrFun (outs_used m hO 0 t h hu) j).trans (block_used _ _ _ _ _ (exOf _ hw) (bk t) hu j)
  · exact (congrFun (outs_unused m hO 0 t h hu) j).trans (block_unused _ _ _ _ _ (bk t) hu j)

/-- What an odd point writes back is its block of the reference's result. -/
theorem flushed4_eq (m : (ℓ : Loc nD τ sig) → Buf (Elt Ideal) ℓ) (c : Dev nD) (hw : ∀ q : Fin 264, ((m ((c : Thread nD τ).loc main_arg1) : IVec S264 32) (ix1 q)).toNat < 8)
    (hO : Ok m) (t : Fin (cfgM m hO).N) (h : t.val % 2 = 1) :
    (dats m hO 0 c).flushed 4 t = (((cfgM m hO).win 4).blk t).view.read (Elt Ideal) (G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) := by
  show ((cfgM m hO).win 4).cut (grid0.coords t) ((dats m hO 0 c).after 4 t) = _
  rw [after0_4]
  funext j
  exact (outs_eq m c hw hO t h j).trans (congrArg (G _ _ _ _ _ _) (emb4 m hO t j).symm)

/-- The kernel's run, with the array it leaves at the reference's result of the arguments. -/
theorem run (m : (ℓ : Loc nD τ sig) → Buf (Elt Ideal) ℓ) (ρ : Dev nD → PrngReg) (h : Cert.Pre_Kernel5Ideal m) :
    θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have hO := ok m h
  exact (θ_run defs _ _).mono (fun r hr c => ⟨((hr.2 c).1 4).trans ((dats m hO 0 c).arrAt_eq_of_cover 4 _
    (fun t hf => flushed4_eq m c (words_lt _ _ _ _ _ _ (h c)) hO t ((flush0_4 (adm m hO) t).1 hf)) (covered4 m hO)), hr.1 c⟩)
    (θ_run_and (unchanged m ρ hO) (run_main m ρ hO))

end Ideal

end Cert.Proof.Experts

end
-- ==== Proof.Routed.lean ====
/-
  Rows read by a list of row numbers, and the sum that a scatter of two weighted rows for each token leaves: what the
  combination of the experts' rows needs for a batch of any size.
-/
module

public import Idealize.ShloMosaic.Lib.Pointwise
public import Idealize.ShloMosaic.Lib.Routing.OpsPair

@[expose] public section

set_option maxRecDepth 16384

noncomputable section

namespace Cert.Proof.Routed

open Idealize.ShloMosaic Idealize.ShloMosaic.TcCoe Idealize.SL.Sem
open scoped BigOperators

theorem hz : (![0, 0] : Fin 2 → Nat) = fun _ => 0 := funext fun a => by fin_cases a <;> rfl

/-! ## Rows read by a list of row numbers -/

/-- `y[idx]` of an array of `N` rows for a list of `n` row numbers, whole rows. -/
abbrev rows (N n : Nat) (wf : GatherDims.WF ⟨2, ![N, 1024]⟩ ⟨2, ![n, 1]⟩ ⟨2, ![n, 1024]⟩ [1] [0] [] [0] [] 1 ![1, 1024]) :
    GatherDims ⟨2, ![N, 1024]⟩ ⟨2, ![n, 1]⟩ ⟨2, ![n, 1024]⟩ where
  offsetDims := [1]
  collapsedSliceDims := [0]
  operandBatchingDims := []
  startIndicesBatchingDims := []
  startIndexMap := [0]
  indexVectorDim := 1
  sliceSizes := ![1, 1024]
  wf := wf

/-- The row that a word reads: its number, held inside the array. -/
def at_row (N : Nat) [NeZero N] (v : BitVec 32) : Fin N := ⟨min v.toInt.toNat (N - 1), by have := NeZero.pos N; omega⟩

/-- The word of an assignment, with a negative one counted from the end. -/
def wrap (N : Nat) (v : BitVec 32) : BitVec 32 := Scalar.select (IntOp.cmpi .slt v 0#32) (IntOp.addi v (BitVec.ofNat 32 N)) v

theorem rows_apply {α : Type} {N n : Nat} [NeZero N] (wf : GatherDims.WF ⟨2, ![N, 1024]⟩ ⟨2, ![n, 1]⟩ ⟨2, ![n, 1024]⟩ [1] [0] [] [0] [] 1 ![1, 1024])
    (x : (⟨2, ![N, 1024]⟩ : Shape).Idx → α) (idx : IVec ⟨2, ![n, 1]⟩ 32) (k : Fin n) (y : Fin 1024) (v : BitVec 32)
    (hv : idx (ix2 k (0 : Fin 1)) = v) : Host.gather (rows N n wf) x idx (ix2 k y) = x (ix2 (at_row N v) y) := by
  unfold Host.gather
  refine congrArg x (funext fun a => Fin.ext ?_)
  show (rows N n wf).start (ix2 k y) idx a + (rows N n wf).batchCoord (ix2 k y) a + (rows N n wf).offCoord (ix2 k y) a = _
  rw [GatherDims.batchCoord_eq_zero _ _ _ List.not_mem_nil, Nat.add_zero]
  match a with
  | ⟨0, _⟩ =>
    have ho : (rows N n wf).offCoord (ix2 k y) (0 : Fin 2) = 0 := rfl
    have h0 : (0 : Fin 2) ∈ (rows N n wf).startIndexMap := List.mem_cons_self
    have hs : (rows N n wf).siIdx (ix2 k y) ⟨List.idxOf (0 : Fin 2) (rows N n wf).startIndexMap, List.idxOf_lt_length_iff.2 h0⟩ = ix2 k (0 : Fin 1) := by
      funext b; refine Fin.ext ?_
      match b with
      | ⟨0, _⟩ => rfl
      | ⟨1, _⟩ => rfl
    show (rows N n wf).start (ix2 k y) idx (0 : Fin 2) + (rows N n wf).offCoord (ix2 k y) (0 : Fin 2) = _
    rw [ho]
    unfold GatherDims.start
    rw [dif_pos h0, hs, hv]
    rfl
  | ⟨1, _⟩ =>
    have ho : (rows N n wf).offCoord (ix2 k y) (1 : Fin 2) = y.val := rfl
    have hst : (rows N n wf).start (ix2 k y) idx (1 : Fin 2) ≤ 1024 - 1024 := (rows N n wf).start_le _ _ _
    show (rows N n wf).start (ix2 k y) idx (1 : Fin 2) + (rows N n wf).offCoord (ix2 k y) (1 : Fin 2) = y.val
    omega

/-! ## Two weighted rows for each token -/

/-- The scatter that adds `A` rows of updates to `T` rows. -/
abbrev scat (T A : Nat) (wf : ScatterDims.WF ⟨2, ![T, 1024]⟩ ⟨2, ![A, 1]⟩ ⟨2, ![A, 1024]⟩ [1] [0] [0] 1) :
    ScatterDims ⟨2, ![T, 1024]⟩ ⟨2, ![A, 1]⟩ ⟨2, ![A, 1024]⟩ where
  updateWindowDims := [1]
  insertedWindowDims := [0]
  scatterDimsToOperandDims := [0]
  indexVectorDim := 1
  wf := wf

theorem sum_congr {a s g g' u u' v v' : EReal} (hs : s = u' * g + v' * g') (hu : u = u') (hv : v = v') : a + g * u + g' * v = a + s := by
  rw [hs, hu, hv, add_assoc, mul_comm g, mul_comm g']

section Scatter
variable {T A : Nat} (hA : A = 2 * T) (hT : T < 2 ^ 30) (wf : ScatterDims.WF ⟨2, ![T, 1024]⟩ ⟨2, ![A, 1]⟩ ⟨2, ![A, 1024]⟩ [1] [0] [0] 1)
  (tok : IVec ⟨2, ![A, 1]⟩ 32) (htok : ∀ k : Fin A, tok (ix2 k 0) = BitVec.ofNat 32 (k.val / 2))
include hA hT htok

/-- An update of assignment `k` lands in the row of its token, its own column. -/
theorem lands (k : Fin A) (y : Fin 1024) (r : Fin T) (z : Fin 1024) :
    (scat T A wf).resultIdx? (ix2 k y) tok = some (ix2 r z) ↔ k.val / 2 = r.val ∧ y = z := by
  have hs0 : (scat T A wf).start (ix2 k y) tok (0 : Fin 2) = (k.val / 2 : Nat) := by
    unfold ScatterDims.start
    have h0 : (0 : Fin 2) ∈ (scat T A wf).scatterDimsToOperandDims := List.mem_cons_self
    have hsi : (scat T A wf).siIdx (ix2 k y) ⟨List.idxOf (0 : Fin 2) (scat T A wf).scatterDimsToOperandDims, List.idxOf_lt_length_iff.2 h0⟩ = ix2 k (0 : Fin 1) := by
      funext b; refine Fin.ext ?_
      match b with
      | ⟨0, _⟩ => rfl
      | ⟨1, _⟩ => rfl
    refine (dif_pos h0).trans ?_
    rw [hsi, htok, StableHlo.Predicate.toInt_ofNat_small _ (by omega)]
  have hs1 : (scat T A wf).start (ix2 k y) tok (1 : Fin 2) = 0 := rfl
  have hw0 : (scat T A wf).window (ix2 k y) (0 : Fin 2) = 0 := rfl
  have hw1 : (scat T A wf).window (ix2 k y) (1 : Fin 2) = y.val := rfl
  rw [Fin.ext_iff]
  refine (Routing.resultIdx?_ix2 _ _ _ r z).trans ?_
  rw [hs0, hs1, hw0, hw1]
  omega

/-- The scatter's sum of what lands at one element: the token's two assignments. -/
theorem scatter_apply (b : FVec Ideal ⟨2, ![T, 1024]⟩ .f32) (hb : ∀ i, b i = (0 : EReal)) (u : FVec Ideal ⟨2, ![A, 1024]⟩ .f32) (r : Fin T) (z : Fin 1024) :
    Host.scatterAdd (scat T A wf) b tok u (ix2 r z)
      = u (ix2 ⟨2 * r.val, by omega⟩ z) + u (ix2 ⟨2 * r.val + 1, by omega⟩ z) := by
  show b (ix2 r z) + ∑ j ∈ Finset.univ.filter (fun j => (scat T A wf).resultIdx? j tok = some (ix2 r z)), u j = _
  have hf : (Finset.univ.filter fun j : (⟨2, ![A, 1024]⟩ : Shape).Idx => (scat T A wf).resultIdx? j tok = some (ix2 r z))
      = {(ix2 ⟨2 * r.val, by omega⟩ z : (⟨2, ![A, 1024]⟩ : Shape).Idx), ix2 ⟨2 * r.val + 1, by omega⟩ z} := by
    ext j
    obtain ⟨j0, j1, rfl⟩ : ∃ (j0 : Fin A) (j1 : Fin 1024), j = ix2 j0 j1 :=
      ⟨j 0, j 1, funext fun a => match a with | ⟨0, _⟩ => rfl | ⟨1, _⟩ => rfl⟩
    rw [Finset.mem_filter, Finset.mem_insert, Finset.mem_singleton]
    constructor
    · rintro ⟨-, h⟩
      obtain ⟨h1, rfl⟩ := (lands hA hT wf tok htok _ _ _ _).1 h
      rcases Nat.mod_two_eq_zero_or_one j0.val with e | e
      · exact Or.inl (congrArg (fun q : Fin A => ix2 q j1) (Fin.ext (by show j0.val = 2 * r.val; omega)))
      · exact Or.inr (congrArg (fun q : Fin A => ix2 q j1) (Fin.ext (by show j0.val = 2 * r.val + 1; omega)))
    · intro h
      refine ⟨Finset.mem_univ _, (lands hA hT wf tok htok _ _ _ _).2 ?_⟩
      rcases h with h | h
      · have h0 : j0.val = 2 * r.val := congrArg (fun i : (⟨2, ![A, 1024]⟩ : Shape).Idx => (i 0).val) h
        exact ⟨by omega, congrArg (fun i : (⟨2, ![A, 1024]⟩ : Shape).Idx => (i 1 : Fin 1024)) h⟩
      · have h0 : j0.val = 2 * r.val + 1 := congrArg (fun i : (⟨2, ![A, 1024]⟩ : Shape).Idx => (i 0).val) h
        exact ⟨by omega, congrArg (fun i : (⟨2, ![A, 1024]⟩ : Shape).Idx => (i 1 : Fin 1024)) h⟩
  rw [hf, Finset.sum_pair]
  · rw [hb]
    exact zero_add _
  · intro h
    have := congrArg (fun i : (⟨2, ![A, 1024]⟩ : Shape).Idx => (i 0).val) h
    have h' : 2 * r.val = 2 * r.val + 1 := this
    omega

/-- The same with the updates that the reference makes: each assignment's row, times its gate. -/
theorem combined {N : Nat} [NeZero N] (b : FVec Ideal ⟨2, ![T, 1024]⟩ .f32) (hb : ∀ i, b i = (0 : EReal)) (u : FVec Ideal ⟨2, ![A, 1024]⟩ .f32)
    (a1 : FVec Ideal ⟨2, ![N, 1024]⟩ .f32) (a2 : IVec ⟨2, ![T, 2]⟩ 32) (a3 : FVec Ideal ⟨2, ![T, 2]⟩ .f32)
    (hu : ∀ (k : Fin A) (y : Fin 1024), u (ix2 k y) = a1 (ix2 (at_row N (wrap N (a2 (ix2 ⟨k.val / 2, by omega⟩ ⟨k.val % 2, by omega⟩)))) y) * a3 (ix2 ⟨k.val / 2, by omega⟩ ⟨k.val % 2, by omega⟩))
    (r : Fin T) (z : Fin 1024) :
    Host.scatterAdd (scat T A wf) b tok u (ix2 r z)
      = a1 (ix2 (at_row N (wrap N (a2 (ix2 r 0)))) z) * a3 (ix2 r 0) + a1 (ix2 (at_row N (wrap N (a2 (ix2 r 1)))) z) * a3 (ix2 r 1) := by
  have hd : ∀ k : Nat, ∀ hk : k < A, ∀ e : Fin 2, k = 2 * r.val + e.val → u (ix2 ⟨k, hk⟩ z) = a1 (ix2 (at_row N (wrap N (a2 (ix2 r e)))) z) * a3 (ix2 r e) := by
    intro k hk e he
    have h1 : (⟨k / 2, by omega⟩ : Fin T) = r := Fin.ext (by show k / 2 = r.val; omega)
    have h2 : (⟨k % 2, by omega⟩ : Fin 2) = e := Fin.ext (by show k % 2 = e.val; omega)
    have h := hu ⟨k, hk⟩ z
    rw [h1, h2] at h
    exact h
  rw [scatter_apply hA hT wf tok htok b hb, hd (2 * r.val) (by omega) 0 rfl, hd (2 * r.val + 1) (by omega) 1 rfl]

end Scatter

end Cert.Proof.Routed

end
-- ==== Proof.Combine.lean ====
/-
  The combination of the experts' rows: the array that the kernel leaves is the array that the reference leaves, element by
  element, over the extended reals. The reference adds each assignment's weighted row to its token's row by a scatter; a
  token's assignments are the two after one another, so its row is the residual row and the two weighted rows.
-/
module

public import proofs.«01_k».proof.Proof.Gen.Kernel6Ideal.Value
public import proofs.«01_k».proof.Proof.Gen.Reference6Ideal.Run
public import proofs.«01_k».proof.Proof.Routed

@[expose] public section

set_option maxRecDepth 16384

noncomputable section

namespace Cert.Proof.Combine

open Cert.Proof.Routed Cert.Kernel6Ideal Cert.Kernel6Ideal.Gen Cert.Kernel6Ideal.Value Idealize.ShloMosaic Idealize.ShloMosaic.TcCoe Idealize.SL.Sem
open scoped BigOperators

section Run
variable {F : FTy → Type} [FloatOps F]
variable (m : (ℓ : Loc nD τ sig) → Buf (Elt F) ℓ)

/-- The list of row numbers that the kernel's host code makes of one column of the assignments. -/
def col0 (a2 : IVec S65536x2 32) : IVec S65536x1 32 :=
  broadcastInDim S65536x1 ![0] bcast_S65536_S65536x1_0 (select (cmpi .slt (shapeCast S65536 (extractStridedSlice S65536x1 ![0, 0] a2 slices_S65536x2_S65536x1_0_0) shapeCasts_S65536x1_S65536) (broadcastInDim S65536 ![] bcast_S_S65536 (constantI S_ 32 0#32))) (addi (shapeCast S65536 (extractStridedSlice S65536x1 ![0, 0] a2 slices_S65536x2_S65536x1_0_0) shapeCasts_S65536x1_S65536) (broadcastInDim S65536 ![] bcast_S_S65536 (constantI S_ 32 135168#32))) (shapeCast S65536 (extractStridedSlice S65536x1 ![0, 0] a2 slices_S65536x2_S65536x1_0_0) shapeCasts_S65536x1_S65536))
def col1 (a2 : IVec S65536x2 32) : IVec S65536x1 32 :=
  broadcastInDim S65536x1 ![0] bcast_S65536_S65536x1_0 (select (cmpi .slt (shapeCast S65536 (extractStridedSlice S65536x1 ![0, 1] a2 slices_S65536x2_S65536x1_0_1) shapeCasts_S65536x1_S65536) (broadcastInDim S65536 ![] bcast_S_S65536 (constantI S_ 32 0#32))) (addi (shapeCast S65536 (extractStridedSlice S65536x1 ![0, 1] a2 slices_S65536x2_S65536x1_0_1) shapeCasts_S65536x1_S65536) (broadcastInDim S65536 ![] bcast_S_S65536 (constantI S_ 32 135168#32))) (shapeCast S65536 (extractStridedSlice S65536x1 ![0, 1] a2 slices_S65536x2_S65536x1_0_1) shapeCasts_S65536x1_S65536))

/-- The host's operations before the call: the rows flattened, the two expert rows of every token, the table of gates. -/
theorem V0 (c : Dev nD) : V m c main_v23 = shapeCast S65536x1024 (m ((c : Thread nD τ).loc main_arg0)) shapeCasts_S16x4096x1024_S65536x1024 := by
  unfold V hostOps0
  after_results <;> rfl
theorem V1 (c : Dev nD) : V m c main_v9 = Host.gather gather_S135168x1024_S65536x1_S65536x1024_1_0_n_n_0_1_11024 (truncf .bf16 (m ((c : Thread nD τ).loc main_arg1)) bitsLt_bf16_f32) (col0 (m ((c : Thread nD τ).loc main_arg2))) := by
  unfold V hostOps0
  after_results <;> rfl
theorem V2 (c : Dev nD) : V m c main_v19 = Host.gather gather_S135168x1024_S65536x1_S65536x1024_1_0_n_n_0_1_11024 (truncf .bf16 (m ((c : Thread nD τ).loc main_arg1)) bitsLt_bf16_f32) (col1 (m ((c : Thread nD τ).loc main_arg2))) := by
  unfold V hostOps0
  after_results <;> rfl
theorem V3 (c : Dev nD) : V m c main_v22 = concatenate S65536x128 1 [⟨S65536x2, broadcastInDim S65536x2 ![] bcast_S_S65536x2 (constant S_ .f32 0x00000000#32)⟩, ⟨S65536x2, m ((c : Thread nD τ).loc main_arg3)⟩, ⟨S65536x124, broadcastInDim S65536x124 ![] bcast_S_S65536x124 (constant S_ .f32 0x00000000#32)⟩] concatenates_S65536x2_S65536x2_S65536x124_S65536x128_d1 := by
  unfold V hostOps0
  after_results <;> rfl

/-- The rows of point `t`, and where its blocks lie. -/
def row (t : Fin cfg0.N) (r : Fin 512) : Fin 65536 := ⟨512 * t.val + r.val, by have := t.isLt; have hN : cfg0.N = 128 := rfl; omega⟩
theorem emb0 (t : Fin cfg0.N) (j : S512x1024.Idx) : ((cfg0.win 0).blk t).view.emb j = ix2 (row t (j 0)) (j 1) := by
  obtain ⟨e0, e1⟩ := (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega
theorem iblk0 (c : Dev nD) (t : Fin cfg0.N) : iblk m c 0 t = fun j : S512x1024.Idx => V m c main_v23 (ix2 (row t (j 0)) (j 1)) := by
  funext j; show V m c main_v23 (((cfg0.win 0).blk t).view.emb j) = _; rw [emb0]; rfl
theorem emb1 (t : Fin cfg0.N) (j : S512x1024.Idx) : ((cfg0.win 1).blk t).view.emb j = ix2 (row t (j 0)) (j 1) := by
  obtain ⟨e0, e1⟩ := (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 512 + 1 * (j 0).val = 512 * t.val + (j 0).val; omega
  | ⟨1, _⟩ => show win0_1.index t (1 : Fin 2) * 1024 + 1 * (j 1).val = (j 1).val; omega
theorem iblk1 (c : Dev nD) (t : Fin cfg0.N) : iblk m c 1 t = fun j : S512x1024.Idx => V m c main_v9 (ix2 (row t (j 0)) (j 1)) := by
  funext j; show V m c main_v9 (((cfg0.win 1).blk t).view.emb j) = _; rw [emb1]; rfl
theorem emb2 (t : Fin cfg0.N) (j : S512x1024.Idx) : ((cfg0.win 2).blk t).view.emb j = ix2 (row t (j 0)) (j 1) := by
  obtain ⟨e0, e1⟩ := (by decide +kernel : ∀ t : Fin grid0.N, win0_2.index t (0 : Fin 2) = t.val ∧ win0_2.index t (1 : Fin 2) = 0) t
  funext a; apply Fin.ext
  match a with
  | ⟨0, _⟩ => show win0_2.index t (0 : Fin 2) * 512 + 1 * (j 0).val = 512 * t.val + (j 0).val; omega
  | ⟨1, _⟩ => show win0_2.index t (1 : Fin 2) * 1024 + 1 * (j 1).val = (j 1).val; omega
theorem iblk2 (c : Dev nD) (t : Fin cfg0.N) : iblk m c 2 t = fun j : S512x1024.Idx => V m c main_v19 (ix2 (row t (j 0)) (j 1)) := by
  funext j; show V m c main_v19 (((cfg0.win 2).blk t).view.emb j) = _; rw [emb2]; rfl
theorem emb3 (t : Fin cfg0.N) (j : S512x128.Idx) : ((cfg0.win 3).blk t).view.emb j = ix2 (row t (j 0)) (j 1) := by
  obtain ⟨e0, e1⟩ := (by decide +kernel : ∀ t : Fin grid0.N, win0_3.index t (0 : Fin 2) = t.val ∧ win0_3.index t (1 : Fin 2) = 0) t
  funext a; apply Fin.ext
  match a with
  | ⟨0, _⟩ => show win0_3.index t (0 : Fin 2) * 512 + 1 * (j 0).val = 512 * t.val + (j 0).val; omega
  | ⟨1, _⟩ => show win0_3.index t (1 : Fin 2) * 128 + 1 * (j 1).val = (j 1).val; omega
theorem iblk3 (c : Dev nD) (t : Fin cfg0.N) : iblk m c 3 t = fun j : S512x128.Idx => V m c main_v22 (ix2 (row t (j 0)) (j 1)) := by
  funext j; show V m c main_v22 (((cfg0.win 3).blk t).view.emb j) = _; rw [emb3]; rfl
theorem emb4 (t : Fin cfg0.N) (j : S512x1024.Idx) : ((cfg0.win 4).blk t).view.emb j = ix2 (row t (j 0)) (j 1) := by
  obtain ⟨e0, e1⟩ := (by decide +kernel : ∀ t : Fin grid0.N, win0_4.index t (0 : Fin 2) = t.val ∧ win0_4.index t (1 : Fin 2) = 0) t
  funext a; apply Fin.ext
  match a with
  | ⟨0, _⟩ => show win0_4.index t (0 : Fin 2) * 512 + 1 * (j 0).val = 512 * t.val + (j 0).val; omega
  | ⟨1, _⟩ => show win0_4.index t (1 : Fin 2) * 1024 + 1 * (j 1).val = (j 1).val; omega

/-- What a point leaves in its block. -/
theorem out_eq (x0 : Vec F S512x1024 .f32) (x1 x2 : Vec F S512x1024 .bf16) (x3 : Vec F S512x128 .f32) : out0_4 x0 x1 x2 x3 = k0_pay1 x3 x0 x1 x2 := by
  unfold out0_4
  rw [View.canon_unit_zero hz, View.ld_unit_zero hz, View.ld_unit_zero hz, View.ld_unit_zero hz, View.ld_unit_zero hz]

theorem covered4 (i : S65536x1024.Idx) : ∃ t : Fin cfg0.N, (cfg0.win 4).flush t = true ∧ i ∈ ((cfg0.win 4).blk t).view.set := by
  obtain ⟨r, hr⟩ : ∃ r : Fin 65536, r = i 0 := ⟨_, rfl⟩
  have hN : cfg0.N = 128 := rfl
  obtain ⟨t, ht⟩ : ∃ t : Fin cfg0.N, t.val = r.val / 512 := ⟨⟨r.val / 512, by omega⟩, rfl⟩
  refine ⟨t, flush0_4 _, ?_⟩
  have h := ((cfg0.win 4).blk t).view.emb_mem_set (ix2 (⟨r.val % 512, Nat.mod_lt _ (by decide)⟩ : Fin 512) (i 1))
  rw [emb4] at h
  refine Eq.mpr (congrArg (· ∈ ((cfg0.win 4).blk t).view.set) (funext fun a => Fin.ext ?_)) h
  match a with
  | ⟨0, _⟩ => show (i 0).val = 512 * t.val + r.val % 512; rw [← hr]; omega
  | ⟨1, _⟩ => rfl

end Run

section Ideal
open Idealize.ShloMosaic (Ideal)

/-- The token of every assignment, and its row, as the reference lists them. -/
def tok : IVec Cert.Reference6Ideal.S131072x1 32 :=
  (broadcastInDim Cert.Reference6Ideal.S131072x1 ![0] Cert.Reference6Ideal.Gen.bcast_S131072_S131072x1_0 (select (cmpi .slt (shapeCast Cert.Reference6Ideal.S131072 (broadcastInDim Cert.Reference6Ideal.S65536x2 ![0] Cert.Reference6Ideal.Gen.bcast_S65536_S65536x2_0 (iotaInDim Cert.Reference6Ideal.S65536 32 0)) Cert.Reference6Ideal.Gen.shapeCasts_S65536x2_S131072) (broadcastInDim Cert.Reference6Ideal.S131072 ![] Cert.Reference6Ideal.Gen.bcast_S_S131072 (constantI Cert.Reference6Ideal.S_ 32 0#32))) (addi (shapeCast Cert.Reference6Ideal.S131072 (broadcastInDim Cert.Reference6Ideal.S65536x2 ![0] Cert.Reference6Ideal.Gen.bcast_S65536_S65536x2_0 (iotaInDim Cert.Reference6Ideal.S65536 32 0)) Cert.Reference6Ideal.Gen.shapeCasts_S65536x2_S131072) (broadcastInDim Cert.Reference6Ideal.S131072 ![] Cert.Reference6Ideal.Gen.bcast_S_S131072 (constantI Cert.Reference6Ideal.S_ 32 65536#32))) (shapeCast Cert.Reference6Ideal.S131072 (broadcastInDim Cert.Reference6Ideal.S65536x2 ![0] Cert.Reference6Ideal.Gen.bcast_S65536_S65536x2_0 (iotaInDim Cert.Reference6Ideal.S65536 32 0)) Cert.Reference6Ideal.Gen.shapeCasts_S65536x2_S131072)))
def dst (a2 : IVec S65536x2 32) : IVec Cert.Reference6Ideal.S131072x1 32 :=
  (broadcastInDim Cert.Reference6Ideal.S131072x1 ![0] Cert.Reference6Ideal.Gen.bcast_S131072_S131072x1_0 (select (cmpi .slt (shapeCast Cert.Reference6Ideal.S131072 a2 Cert.Reference6Ideal.Gen.shapeCasts_S65536x2_S131072) (broadcastInDim Cert.Reference6Ideal.S131072 ![] Cert.Reference6Ideal.Gen.bcast_S_S131072 (constantI Cert.Reference6Ideal.S_ 32 0#32))) (addi (shapeCast Cert.Reference6Ideal.S131072 a2 Cert.Reference6Ideal.Gen.shapeCasts_S65536x2_S131072) (broadcastInDim Cert.Reference6Ideal.S131072 ![] Cert.Reference6Ideal.Gen.bcast_S_S131072 (constantI Cert.Reference6Ideal.S_ 32 135168#32))) (shapeCast Cert.Reference6Ideal.S131072 a2 Cert.Reference6Ideal.Gen.shapeCasts_S65536x2_S131072)))
/-- Every assignment's weighted row. -/
def upd (a1 : FVec Ideal S135168x1024 .f32) (a2 : IVec S65536x2 32) (a3 : FVec Ideal S65536x2 .f32) : FVec Ideal Cert.Reference6Ideal.S131072x1024 .f32 :=
  (mulf (Host.gather Cert.Reference6Ideal.gather_S135168x1024_S131072x1_S131072x1024_1_0_n_n_0_1_11024 a1 (dst a2)) (broadcastInDim Cert.Reference6Ideal.S131072x1024 ![0, 1] Cert.Reference6Ideal.Gen.bcast_S131072x1_S131072x1024_0_1 (broadcastInDim Cert.Reference6Ideal.S131072x1 ![0] Cert.Reference6Ideal.Gen.bcast_S131072_S131072x1_0 (shapeCast Cert.Reference6Ideal.S131072 a3 Cert.Reference6Ideal.Gen.shapeCasts_S65536x2_S131072))))
/-- The reference's result, as its run states it. -/
def G (a0 : FVec Ideal S16x4096x1024 .f32) (a1 : FVec Ideal S135168x1024 .f32) (a2 : IVec S65536x2 32) (a3 : FVec Ideal S65536x2 .f32) : FVec Ideal S65536x1024 .f32 :=
  shapeCast Cert.Reference6Ideal.S65536x1024 (addf a0 (shapeCast Cert.Reference6Ideal.S16x4096x1024 (Host.scatterAdd Cert.Reference6Ideal.scatter_S65536x1024_S131072x1_S131072x1024_1_0_0_1 (broadcastInDim Cert.Reference6Ideal.S65536x1024 ![] Cert.Reference6Ideal.Gen.bcast_S_S65536x1024 (constant Cert.Reference6Ideal.S_ .f32 0x00000000#32)) tok (upd a1 a2 a3)) Cert.Reference6Ideal.Gen.shapeCasts_S65536x1024_S16x4096x1024)) Cert.Reference6Ideal.Gen.shapeCasts_S16x4096x1024_S65536x1024

theorem tok_apply (k : Fin 131072) : tok (ix2 k 0) = BitVec.ofNat 32 (k.val / 2) := by
  unfold tok
  pointwise
  exact Routing.wrap_of_lt _ _ (by rw [BitVec.toNat_ofNat]; omega)
theorem dst_apply (a2 : IVec S65536x2 32) (k : Fin 131072) : dst a2 (ix2 k 0) = wrap 135168 (a2 (ix2 ⟨k.val / 2, by omega⟩ ⟨k.val % 2, by omega⟩)) := by
  unfold dst
  pointwise
  rfl
theorem col0_apply (a2 : IVec S65536x2 32) (r : Fin 65536) : col0 a2 (ix2 r 0) = wrap 135168 (a2 (ix2 r 0)) := by
  unfold col0
  pointwise
  rfl
theorem col1_apply (a2 : IVec S65536x2 32) (r : Fin 65536) : col1 a2 (ix2 r 0) = wrap 135168 (a2 (ix2 r 1)) := by
  unfold col1
  pointwise
  rfl
theorem upd_apply (a1 : FVec Ideal S135168x1024 .f32) (a2 : IVec S65536x2 32) (a3 : FVec Ideal S65536x2 .f32) (k : Fin 131072) (y : Fin 1024) :
    upd a1 a2 a3 (ix2 k y) = a1 (ix2 (at_row 135168 (wrap 135168 (a2 (ix2 ⟨k.val / 2, by omega⟩ ⟨k.val % 2, by omega⟩)))) y) * a3 (ix2 ⟨k.val / 2, by omega⟩ ⟨k.val % 2, by omega⟩) := by
  unfold upd
  pointwise
  exact congrArg (· * a3 (ix2 ⟨k.val / 2, by omega⟩ ⟨k.val % 2, by omega⟩)) (rows_apply _ a1 (dst a2) k y _ (dst_apply a2 k))

/-- What the reference's scatter adds to. -/
theorem zeros (i : Cert.Reference6Ideal.S65536x1024.Idx) : (broadcastInDim Cert.Reference6Ideal.S65536x1024 ![] Cert.Reference6Ideal.Gen.bcast_S_S65536x1024 (constant Cert.Reference6Ideal.S_ .f32 0x00000000#32) : FVec Ideal Cert.Reference6Ideal.S65536x1024 .f32) i = (0 : EReal) := by
  idx_vars i
  pointwise

theorem block_eq (a0 : FVec Ideal S16x4096x1024 .f32) (a1 : FVec Ideal S135168x1024 .f32) (a2 : IVec S65536x2 32) (a3 : FVec Ideal S65536x2 .f32) (t : Fin cfg0.N) (j : S512x1024.Idx) :
    k0_pay1 (fun j : S512x128.Idx => (concatenate S65536x128 1 [⟨S65536x2, broadcastInDim S65536x2 ![] bcast_S_S65536x2 (constant S_ .f32 0x00000000#32)⟩, ⟨S65536x2, a3⟩, ⟨S65536x124, broadcastInDim S65536x124 ![] bcast_S_S65536x124 (constant S_ .f32 0x00000000#32)⟩] concatenates_S65536x2_S65536x2_S65536x124_S65536x128_d1 : FVec Ideal S65536x128 .f32) (ix2 (row t (j 0)) (j 1)))
      (fun j : S512x1024.Idx => (shapeCast S65536x1024 a0 shapeCasts_S16x4096x1024_S65536x1024) (ix2 (row t (j 0)) (j 1)))
      (fun j : S512x1024.Idx => (Host.gather gather_S135168x1024_S65536x1_S65536x1024_1_0_n_n_0_1_11024 (truncf .bf16 a1 bitsLt_bf16_f32) (col0 a2)) (ix2 (row t (j 0)) (j 1)))
      (fun j : S512x1024.Idx => (Host.gather gather_S135168x1024_S65536x1_S65536x1024_1_0_n_n_0_1_11024 (truncf .bf16 a1 bitsLt_bf16_f32) (col1 a2)) (ix2 (row t (j 0)) (j 1))) j
    = G a0 a1 a2 a3 (ix2 (row t (j 0)) (j 1)) := by
  idx_vars j
  unfold G k0_pay1
  pointwise
  have e0 := rows_apply Facts₀.gather_S135168x1024_S65536x1_S65536x1024_1_0_n_n_0_1_11024_wf a1 (col0 a2) (row t j0) j1 _ (col0_apply a2 (row t j0))
  have e1 := rows_apply Facts₀.gather_S135168x1024_S65536x1_S65536x1024_1_0_n_n_0_1_11024_wf a1 (col1 a2) (row t j0) j1 _ (col1_apply a2 (row t j0))
  have es := combined (T := 65536) (A := 131072) (N := 135168) rfl (by decide) Cert.Reference6Ideal.Gen.scatter_S65536x1024_S131072x1_S131072x1024_1_0_0_1_wf tok tok_apply
    (broadcastInDim Cert.Reference6Ideal.S65536x1024 ![] Cert.Reference6Ideal.Gen.bcast_S_S65536x1024 (constant Cert.Reference6Ideal.S_ .f32 0x00000000#32)) zeros (upd a1 a2 a3) a1 a2 a3 (upd_apply a1 a2 a3) (row t j0) j1
  exact sum_congr es e0 e1

/-- What point `t` writes back is its block of the reference's result. -/
theorem flushed4_eq (m : (ℓ : Loc nD τ sig) → Buf (Elt Ideal) ℓ) (c : Dev nD) (t : Fin cfg0.N) :
    (dats m 0 c).flushed 4 t = ((cfg0.win 4).blk t).view.read (Elt Ideal) (G (m ((c : Thread nD τ).loc main_arg0))
      (m ((c : Thread nD τ).loc main_arg1)) (m ((c : Thread nD τ).loc main_arg2)) (m ((c : Thread nD τ).loc main_arg3))) := by
  rw [flushed4, out_eq, iblk0, iblk1, iblk2, iblk3, V0, V1, V2, V3]
  funext j
  show _ = G _ _ _ _ (((cfg0.win 4).blk t).view.emb j)
  rw [emb4]
  exact block_eq _ _ _ _ t j

/-- The kernel's run, with the array it leaves at the reference's result of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v24) = G (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed4_eq m c t) covered4), (h c).2⟩) (run_blocks m ρ)

end Ideal

end Cert.Proof.Combine

end
-- ==== Proof.Combine2.lean ====
/-
  The combination of the experts' rows on the second batch: the argument of `Combine` at its sizes, from the same lemmas of `Routed`.
-/
module

public import proofs.«01_k».proof.Proof.Gen.Kernel7Ideal.Value
public import proofs.«01_k».proof.Proof.Gen.Reference7Ideal.Run
public import proofs.«01_k».proof.Proof.Routed

@[expose] public section

set_option maxRecDepth 16384

noncomputable section

namespace Cert.Proof.Combine2

open Cert.Proof.Routed Cert.Kernel7Ideal Cert.Kernel7Ideal.Gen Cert.Kernel7Ideal.Value Idealize.ShloMosaic Idealize.ShloMosaic.TcCoe Idealize.SL.Sem
open scoped BigOperators

section Run
variable {F : FTy → Type} [FloatOps F]
variable (m : (ℓ : Loc nD τ sig) → Buf (Elt F) ℓ)

/-- The list of row numbers that the kernel's host code makes of one column of the assignments. -/
def col0 (a2 : IVec S16384x2 32) : IVec S16384x1 32 :=
  broadcastInDim S16384x1 ![0] bcast_S16384_S16384x1_0 (select (cmpi .slt (shapeCast S16384 (extractStridedSlice S16384x1 ![0, 0] a2 slices_S16384x2_S16384x1_0_0) shapeCasts_S16384x1_S16384) (broadcastInDim S16384 ![] bcast_S_S16384 (constantI S_ 32 0#32))) (addi (shapeCast S16384 (extractStridedSlice S16384x1 ![0, 0] a2 slices_S16384x2_S16384x1_0_0) shapeCasts_S16384x1_S16384) (broadcastInDim S16384 ![] bcast_S_S16384 (constantI S_ 32 36864#32))) (shapeCast S16384 (extractStridedSlice S16384x1 ![0, 0] a2 slices_S16384x2_S16384x1_0_0) shapeCasts_S16384x1_S16384))
def col1 (a2 : IVec S16384x2 32) : IVec S16384x1 32 :=
  broadcastInDim S16384x1 ![0] bcast_S16384_S16384x1_0 (select (cmpi .slt (shapeCast S16384 (extractStridedSlice S16384x1 ![0, 1] a2 slices_S16384x2_S16384x1_0_1) shapeCasts_S16384x1_S16384) (broadcastInDim S16384 ![] bcast_S_S16384 (constantI S_ 32 0#32))) (addi (shapeCast S16384 (extractStridedSlice S16384x1 ![0, 1] a2 slices_S16384x2_S16384x1_0_1) shapeCasts_S16384x1_S16384) (broadcastInDim S16384 ![] bcast_S_S16384 (constantI S_ 32 36864#32))) (shapeCast S16384 (extractStridedSlice S16384x1 ![0, 1] a2 slices_S16384x2_S16384x1_0_1) shapeCasts_S16384x1_S16384))

/-- The host's operations before the call: the rows flattened, the two expert rows of every token, the table of gates. -/
theorem V0 (c : Dev nD) : V m c main_v23 = shapeCast S16384x1024 (m ((c : Thread nD τ).loc main_arg0)) shapeCasts_S8x2048x1024_S16384x1024 := by
  unfold V hostOps0
  after_results <;> rfl
theorem V1 (c : Dev nD) : V m c main_v9 = Host.gather gather_S36864x1024_S16384x1_S16384x1024_1_0_n_n_0_1_11024 (truncf .bf16 (m ((c : Thread nD τ).loc main_arg1)) bitsLt_bf16_f32) (col0 (m ((c : Thread nD τ).loc main_arg2))) := by
  unfold V hostOps0
  after_results <;> rfl
theorem V2 (c : Dev nD) : V m c main_v19 = Host.gather gather_S36864x1024_S16384x1_S16384x1024_1_0_n_n_0_1_11024 (truncf .bf16 (m ((c : Thread nD τ).loc main_arg1)) bitsLt_bf16_f32) (col1 (m ((c : Thread nD τ).loc main_arg2))) := by
  unfold V hostOps0
  after_results <;> rfl
theorem V3 (c : Dev nD) : V m c main_v22 = concatenate S16384x128 1 [⟨S16384x2, broadcastInDim S16384x2 ![] bcast_S_S16384x2 (constant S_ .f32 0x00000000#32)⟩, ⟨S16384x2, m ((c : Thread nD τ).loc main_arg3)⟩, ⟨S16384x124, broadcastInDim S16384x124 ![] bcast_S_S16384x124 (constant S_ .f32 0x00000000#32)⟩] concatenates_S16384x2_S16384x2_S16384x124_S16384x128_d1 := by
  unfold V hostOps0
  after_results <;> rfl

/-- The rows of point `t`, and where its blocks lie. -/
def row (t : Fin cfg0.N) (r : Fin 512) : Fin 16384 := ⟨512 * t.val + r.val, by have := t.isLt; have hN : cfg0.N = 32 := rfl; omega⟩
theorem emb0 (t : Fin cfg0.N) (j : S512x1024.Idx) : ((cfg0.win 0).blk t).view.emb j = ix2 (row t (j 0)) (j 1) := by
  obtain ⟨e0, e1⟩ := (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega
theorem iblk0 (c : Dev nD) (t : Fin cfg0.N) : iblk m c 0 t = fun j : S512x1024.Idx => V m c main_v23 (ix2 (row t (j 0)) (j 1)) := by
  funext j; show V m c main_v23 (((cfg0.win 0).blk t).view.emb j) = _; rw [emb0]; rfl
theorem emb1 (t : Fin cfg0.N) (j : S512x1024.Idx) : ((cfg0.win 1).blk t).view.emb j = ix2 (row t (j 0)) (j 1) := by
  obtain ⟨e0, e1⟩ := (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 512 + 1 * (j 0).val = 512 * t.val + (j 0).val; omega
  | ⟨1, _⟩ => show win0_1.index t (1 : Fin 2) * 1024 + 1 * (j 1).val = (j 1).val; omega
theorem iblk1 (c : Dev nD) (t : Fin cfg0.N) : iblk m c 1 t = fun j : S512x1024.Idx => V m c main_v9 (ix2 (row t (j 0)) (j 1)) := by
  funext j; show V m c main_v9 (((cfg0.win 1).blk t).view.emb j) = _; rw [emb1]; rfl
theorem emb2 (t : Fin cfg0.N) (j : S512x1024.Idx) : ((cfg0.win 2).blk t).view.emb j = ix2 (row t (j 0)) (j 1) := by
  obtain ⟨e0, e1⟩ := (by decide +kernel : ∀ t : Fin grid0.N, win0_2.index t (0 : Fin 2) = t.val ∧ win0_2.index t (1 : Fin 2) = 0) t
  funext a; apply Fin.ext
  match a with
  | ⟨0, _⟩ => show win0_2.index t (0 : Fin 2) * 512 + 1 * (j 0).val = 512 * t.val + (j 0).val; omega
  | ⟨1, _⟩ => show win0_2.index t (1 : Fin 2) * 1024 + 1 * (j 1).val = (j 1).val; omega
theorem iblk2 (c : Dev nD) (t : Fin cfg0.N) : iblk m c 2 t = fun j : S512x1024.Idx => V m c main_v19 (ix2 (row t (j 0)) (j 1)) := by
  funext j; show V m c main_v19 (((cfg0.win 2).blk t).view.emb j) = _; rw [emb2]; rfl
theorem emb3 (t : Fin cfg0.N) (j : S512x128.Idx) : ((cfg0.win 3).blk t).view.emb j = ix2 (row t (j 0)) (j 1) := by
  obtain ⟨e0, e1⟩ := (by decide +kernel : ∀ t : Fin grid0.N, win0_3.index t (0 : Fin 2) = t.val ∧ win0_3.index t (1 : Fin 2) = 0) t
  funext a; apply Fin.ext
  match a with
  | ⟨0, _⟩ => show win0_3.index t (0 : Fin 2) * 512 + 1 * (j 0).val = 512 * t.val + (j 0).val; omega
  | ⟨1, _⟩ => show win0_3.index t (1 : Fin 2) * 128 + 1 * (j 1).val = (j 1).val; omega
theorem iblk3 (c : Dev nD) (t : Fin cfg0.N) : iblk m c 3 t = fun j : S512x128.Idx => V m c main_v22 (ix2 (row t (j 0)) (j 1)) := by
  funext j; show V m c main_v22 (((cfg0.win 3).blk t).view.emb j) = _; rw [emb3]; rfl
theorem emb4 (t : Fin cfg0.N) (j : S512x1024.Idx) : ((cfg0.win 4).blk t).view.emb j = ix2 (row t (j 0)) (j 1) := by
  obtain ⟨e0, e1⟩ := (by decide +kernel : ∀ t : Fin grid0.N, win0_4.index t (0 : Fin 2) = t.val ∧ win0_4.index t (1 : Fin 2) = 0) t
  funext a; apply Fin.ext
  match a with
  | ⟨0, _⟩ => show win0_4.index t (0 : Fin 2) * 512 + 1 * (j 0).val = 512 * t.val + (j 0).val; omega
  | ⟨1, _⟩ => show win0_4.index t (1 : Fin 2) * 1024 + 1 * (j 1).val = (j 1).val; omega

/-- What a point leaves in its block. -/
theorem out_eq (x0 : Vec F S512x1024 .f32) (x1 x2 : Vec F S512x1024 .bf16) (x3 : Vec F S512x128 .f32) : out0_4 x0 x1 x2 x3 = k0_pay1 x3 x0 x1 x2 := by
  unfold out0_4
  rw [View.canon_unit_zero hz, View.ld_unit_zero hz, View.ld_unit_zero hz, View.ld_unit_zero hz, View.ld_unit_zero hz]

theorem covered4 (i : S16384x1024.Idx) : ∃ t : Fin cfg0.N, (cfg0.win 4).flush t = true ∧ i ∈ ((cfg0.win 4).blk t).view.set := by
  obtain ⟨r, hr⟩ : ∃ r : Fin 16384, r = i 0 := ⟨_, rfl⟩
  have hN : cfg0.N = 32 := rfl
  obtain ⟨t, ht⟩ : ∃ t : Fin cfg0.N, t.val = r.val / 512 := ⟨⟨r.val / 512, by omega⟩, rfl⟩
  refine ⟨t, flush0_4 _, ?_⟩
  have h := ((cfg0.win 4).blk t).view.emb_mem_set (ix2 (⟨r.val % 512, Nat.mod_lt _ (by decide)⟩ : Fin 512) (i 1))
  rw [emb4] at h
  refine Eq.mpr (congrArg (· ∈ ((cfg0.win 4).blk t).view.set) (funext fun a => Fin.ext ?_)) h
  match a with
  | ⟨0, _⟩ => show (i 0).val = 512 * t.val + r.val % 512; rw [← hr]; omega
  | ⟨1, _⟩ => rfl

end Run

section Ideal
open Idealize.ShloMosaic (Ideal)

/-- The token of every assignment, and its row, as the reference lists them. -/
def tok : IVec Cert.Reference7Ideal.S32768x1 32 :=
  (broadcastInDim Cert.Reference7Ideal.S32768x1 ![0] Cert.Reference7Ideal.Gen.bcast_S32768_S32768x1_0 (select (cmpi .slt (shapeCast Cert.Reference7Ideal.S32768 (broadcastInDim Cert.Reference7Ideal.S16384x2 ![0] Cert.Reference7Ideal.Gen.bcast_S16384_S16384x2_0 (iotaInDim Cert.Reference7Ideal.S16384 32 0)) Cert.Reference7Ideal.Gen.shapeCasts_S16384x2_S32768) (broadcastInDim Cert.Reference7Ideal.S32768 ![] Cert.Reference7Ideal.Gen.bcast_S_S32768 (constantI Cert.Reference7Ideal.S_ 32 0#32))) (addi (shapeCast Cert.Reference7Ideal.S32768 (broadcastInDim Cert.Reference7Ideal.S16384x2 ![0] Cert.Reference7Ideal.Gen.bcast_S16384_S16384x2_0 (iotaInDim Cert.Reference7Ideal.S16384 32 0)) Cert.Reference7Ideal.Gen.shapeCasts_S16384x2_S32768) (broadcastInDim Cert.Reference7Ideal.S32768 ![] Cert.Reference7Ideal.Gen.bcast_S_S32768 (constantI Cert.Reference7Ideal.S_ 32 16384#32))) (shapeCast Cert.Reference7Ideal.S32768 (broadcastInDim Cert.Reference7Ideal.S16384x2 ![0] Cert.Reference7Ideal.Gen.bcast_S16384_S16384x2_0 (iotaInDim Cert.Reference7Ideal.S16384 32 0)) Cert.Reference7Ideal.Gen.shapeCasts_S16384x2_S32768)))
def dst (a2 : IVec S16384x2 32) : IVec Cert.Reference7Ideal.S32768x1 32 :=
  (broadcastInDim Cert.Reference7Ideal.S32768x1 ![0] Cert.Reference7Ideal.Gen.bcast_S32768_S32768x1_0 (select (cmpi .slt (shapeCast Cert.Reference7Ideal.S32768 a2 Cert.Reference7Ideal.Gen.shapeCasts_S16384x2_S32768) (broadcastInDim Cert.Reference7Ideal.S32768 ![] Cert.Reference7Ideal.Gen.bcast_S_S32768 (constantI Cert.Reference7Ideal.S_ 32 0#32))) (addi (shapeCast Cert.Reference7Ideal.S32768 a2 Cert.Reference7Ideal.Gen.shapeCasts_S16384x2_S32768) (broadcastInDim Cert.Reference7Ideal.S32768 ![] Cert.Reference7Ideal.Gen.bcast_S_S32768 (constantI Cert.Reference7Ideal.S_ 32 36864#32))) (shapeCast Cert.Reference7Ideal.S32768 a2 Cert.Reference7Ideal.Gen.shapeCasts_S16384x2_S32768)))
/-- Every assignment's weighted row. -/
def upd (a1 : FVec Ideal S36864x1024 .f32) (a2 : IVec S16384x2 32) (a3 : FVec Ideal S16384x2 .f32) : FVec Ideal Cert.Reference7Ideal.S32768x1024 .f32 :=
  (mulf (Host.gather Cert.Reference7Ideal.gather_S36864x1024_S32768x1_S32768x1024_1_0_n_n_0_1_11024 a1 (dst a2)) (broadcastInDim Cert.Reference7Ideal.S32768x1024 ![0, 1] Cert.Reference7Ideal.Gen.bcast_S32768x1_S32768x1024_0_1 (broadcastInDim Cert.Reference7Ideal.S32768x1 ![0] Cert.Reference7Ideal.Gen.bcast_S32768_S32768x1_0 (shapeCast Cert.Reference7Ideal.S32768 a3 Cert.Reference7Ideal.Gen.shapeCasts_S16384x2_S32768))))
/-- The reference's result, as its run states it. -/
def G (a0 : FVec Ideal S8x2048x1024 .f32) (a1 : FVec Ideal S36864x1024 .f32) (a2 : IVec S16384x2 32) (a3 : FVec Ideal S16384x2 .f32) : FVec Ideal S16384x1024 .f32 :=
  shapeCast Cert.Reference7Ideal.S16384x1024 (addf a0 (shapeCast Cert.Reference7Ideal.S8x2048x1024 (Host.scatterAdd Cert.Reference7Ideal.scatter_S16384x1024_S32768x1_S32768x1024_1_0_0_1 (broadcastInDim Cert.Reference7Ideal.S16384x1024 ![] Cert.Reference7Ideal.Gen.bcast_S_S16384x1024 (constant Cert.Reference7Ideal.S_ .f32 0x00000000#32)) tok (upd a1 a2 a3)) Cert.Reference7Ideal.Gen.shapeCasts_S16384x1024_S8x2048x1024)) Cert.Reference7Ideal.Gen.shapeCasts_S8x2048x1024_S16384x1024

theorem tok_apply (k : Fin 32768) : tok (ix2 k 0) = BitVec.ofNat 32 (k.val / 2) := by
  unfold tok
  pointwise
  exact Routing.wrap_of_lt _ _ (by rw [BitVec.toNat_ofNat]; omega)
theorem dst_apply (a2 : IVec S16384x2 32) (k : Fin 32768) : dst a2 (ix2 k 0) = wrap 36864 (a2 (ix2 ⟨k.val / 2, by omega⟩ ⟨k.val % 2, by omega⟩)) := by
  unfold dst
  pointwise
  rfl
theorem col0_apply (a2 : IVec S16384x2 32) (r : Fin 16384) : col0 a2 (ix2 r 0) = wrap 36864 (a2 (ix2 r 0)) := by
  unfold col0
  pointwise
  rfl
theorem col1_apply (a2 : IVec S16384x2 32) (r : Fin 16384) : col1 a2 (ix2 r 0) = wrap 36864 (a2 (ix2 r 1)) := by
  unfold col1
  pointwise
  rfl
theorem upd_apply (a1 : FVec Ideal S36864x1024 .f32) (a2 : IVec S16384x2 32) (a3 : FVec Ideal S16384x2 .f32) (k : Fin 32768) (y : Fin 1024) :
    upd a1 a2 a3 (ix2 k y) = a1 (ix2 (at_row 36864 (wrap 36864 (a2 (ix2 ⟨k.val / 2, by omega⟩ ⟨k.val % 2, by omega⟩)))) y) * a3 (ix2 ⟨k.val / 2, by omega⟩ ⟨k.val % 2, by omega⟩) := by
  unfold upd
  pointwise
  exact congrArg (· * a3 (ix2 ⟨k.val / 2, by omega⟩ ⟨k.val % 2, by omega⟩)) (rows_apply _ a1 (dst a2) k y _ (dst_apply a2 k))

/-- What the reference's scatter adds to. -/
theorem zeros (i : Cert.Reference7Ideal.S16384x1024.Idx) : (broadcastInDim Cert.Reference7Ideal.S16384x1024 ![] Cert.Reference7Ideal.Gen.bcast_S_S16384x1024 (constant Cert.Reference7Ideal.S_ .f32 0x00000000#32) : FVec Ideal Cert.Reference7Ideal.S16384x1024 .f32) i = (0 : EReal) := by
  idx_vars i
  pointwise

theorem block_eq (a0 : FVec Ideal S8x2048x1024 .f32) (a1 : FVec Ideal S36864x1024 .f32) (a2 : IVec S16384x2 32) (a3 : FVec Ideal S16384x2 .f32) (t : Fin cfg0.N) (j : S512x1024.Idx) :
    k0_pay1 (fun j : S512x128.Idx => (concatenate S16384x128 1 [⟨S16384x2, broadcastInDim S16384x2 ![] bcast_S_S16384x2 (constant S_ .f32 0x00000000#32)⟩, ⟨S16384x2, a3⟩, ⟨S16384x124, broadcastInDim S16384x124 ![] bcast_S_S16384x124 (constant S_ .f32 0x00000000#32)⟩] concatenates_S16384x2_S16384x2_S16384x124_S16384x128_d1 : FVec Ideal S16384x128 .f32) (ix2 (row t (j 0)) (j 1)))
      (fun j : S512x1024.Idx => (shapeCast S16384x1024 a0 shapeCasts_S8x2048x1024_S16384x1024) (ix2 (row t (j 0)) (j 1)))
      (fun j : S512x1024.Idx => (Host.gather gather_S36864x1024_S16384x1_S16384x1024_1_0_n_n_0_1_11024 (truncf .bf16 a1 bitsLt_bf16_f32) (col0 a2)) (ix2 (row t (j 0)) (j 1)))
      (fun j : S512x1024.Idx => (Host.gather gather_S36864x1024_S16384x1_S16384x1024_1_0_n_n_0_1_11024 (truncf .bf16 a1 bitsLt_bf16_f32) (col1 a2)) (ix2 (row t (j 0)) (j 1))) j
    = G a0 a1 a2 a3 (ix2 (row t (j 0)) (j 1)) := by
  idx_vars j
  unfold G k0_pay1
  pointwise
  have e0 := rows_apply Facts₀.gather_S36864x1024_S16384x1_S16384x1024_1_0_n_n_0_1_11024_wf a1 (col0 a2) (row t j0) j1 _ (col0_apply a2 (row t j0))
  have e1 := rows_apply Facts₀.gather_S36864x1024_S16384x1_S16384x1024_1_0_n_n_0_1_11024_wf a1 (col1 a2) (row t j0) j1 _ (col1_apply a2 (row t j0))
  have es := combined (T := 16384) (A := 32768) (N := 36864) rfl (by decide) Cert.Reference7Ideal.Gen.scatter_S16384x1024_S32768x1_S32768x1024_1_0_0_1_wf tok tok_apply
    (broadcastInDim Cert.Reference7Ideal.S16384x1024 ![] Cert.Reference7Ideal.Gen.bcast_S_S16384x1024 (constant Cert.Reference7Ideal.S_ .f32 0x00000000#32)) zeros (upd a1 a2 a3) a1 a2 a3 (upd_apply a1 a2 a3) (row t j0) j1
  exact sum_congr es e0 e1

/-- What point `t` writes back is its block of the reference's result. -/
theorem flushed4_eq (m : (ℓ : Loc nD τ sig) → Buf (Elt Ideal) ℓ) (c : Dev nD) (t : Fin cfg0.N) :
    (dats m 0 c).flushed 4 t = ((cfg0.win 4).blk t).view.read (Elt Ideal) (G (m ((c : Thread nD τ).loc main_arg0))
      (m ((c : Thread nD τ).loc main_arg1)) (m ((c : Thread nD τ).loc main_arg2)) (m ((c : Thread nD τ).loc main_arg3))) := by
  rw [flushed4, out_eq, iblk0, iblk1, iblk2, iblk3, V0, V1, V2, V3]
  funext j
  show _ = G _ _ _ _ (((cfg0.win 4).blk t).view.emb j)
  rw [emb4]
  exact block_eq _ _ _ _ t j

/-- The kernel's run, with the array it leaves at the reference's result of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v24) = G (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed4_eq m c t) covered4), (h c).2⟩) (run_blocks m ρ)

end Ideal

end Cert.Proof.Combine2

end
-- ==== Proof.Ranks.lean ====
/-
  What a stable sort leaves, by number of place: the entry at a place has as many entries before it as there are greater keys and
  equal keys that stand before it. With it the counts of a list of small numbers, by running count, as a scatter of ones leaves
  them; and the greatest and the first of a row, as folds.
-/
module

public import Idealize.ShloMosaic.Lib.Pointwise
public import Idealize.ShloMosaic.Lib.SortFacts
public import Idealize.ShloMosaic.Lib.PlanTiles.StableSort
public import Idealize.ShloMosaic.Lib.SortNet.Extract
public import Idealize.ShloMosaic.Lib.Routing.OpsSet

@[expose] public section

noncomputable section

namespace Cert.Proof.Ranks

open Idealize.ShloMosaic Idealize.ShloMosaic.Routing
open scoped BigOperators

/-! ## The places of a stable sort -/

section Places
variable {n : Nat} (G : Fin n → Nat) (before : Fin n → Fin n → Bool) (hb : ∀ k k', before k k' = decide (G k' < G k))
include hb

/-- Of two places, the earlier one holds the greater key, or the same key from further to the front. -/
theorem sorted_lex {i j : Fin n} (hij : i < j) :
    G (sortedFrom before j) < G (sortedFrom before i) ∨ (G (sortedFrom before i) = G (sortedFrom before j) ∧ sortedFrom before i < sortedFrom before j) := by
  obtain rfl : before = fun k k' => decide (G k' < G k) := funext fun k => funext fun k' => hb k k'
  have hp := List.pairwise_iff_get.mp (PlanTiles.pairwise_stableSort_lex G (· < ·) (List.finRange n) (List.pairwise_lt_finRange n))
  exact hp (i.cast (length_sortPositions n _).symm) (j.cast (length_sortPositions n _).symm) hij

theorem sorted_lt_iff (i j : Fin n) :
    i < j ↔ G (sortedFrom before j) < G (sortedFrom before i) ∨ (G (sortedFrom before i) = G (sortedFrom before j) ∧ sortedFrom before i < sortedFrom before j) := by
  refine ⟨sorted_lex G before hb, fun h => ?_⟩
  rcases lt_trichotomy i j with h1 | h1 | h1
  · exact h1
  · subst h1
    rcases h with h | h
    · exact (lt_irrefl _ h).elim
    · exact (lt_irrefl _ h.2).elim
  · have h2 := sorted_lex G before hb h1
    have := @Fin.lt_def n (sortedFrom before i) (sortedFrom before j)
    have := @Fin.lt_def n (sortedFrom before j) (sortedFrom before i)
    omega

/-- The number of a place: the greater keys, and the equal keys further to the front. -/
theorem place (j a : Fin n) (ha : sortedFrom before j = a) :
    j.val = (Finset.univ.filter fun b => G a < G b).card + (Finset.univ.filter fun b => G b = G a ∧ b < a).card := by
  have h1 : j.val = (Finset.univ.filter fun k : Fin n => k < j).card := by
    rw [show (Finset.univ.filter fun k : Fin n => k < j) = Finset.Iio j from by ext; simp]
    exact (Fin.card_Iio j).symm
  have h2 : (Finset.univ.filter fun k : Fin n => k < j).card = (Finset.univ.filter fun b => G a < G b ∨ (G b = G a ∧ b < a)).card := by
    refine Finset.card_bij (fun k _ => sortedFrom before k) (fun k hk => ?_) (fun k _ k' _ h => sortedFrom_injective before h) (fun b hb' => ?_)
    · rw [Finset.mem_filter] at hk ⊢
      exact ⟨Finset.mem_univ _, ha ▸ sorted_lex G before hb hk.2⟩
    · obtain ⟨k, rfl⟩ := sortedFrom_surjective before b
      rw [Finset.mem_filter] at hb'
      refine ⟨k, Finset.mem_filter.2 ⟨Finset.mem_univ _, (sorted_lt_iff G before hb k j).2 ?_⟩, rfl⟩
      rw [ha]
      exact hb'.2
  rw [h1, h2, Finset.filter_or, Finset.card_union_of_disjoint]
  refine Finset.disjoint_left.2 fun b hb1 hb2 => ?_
  rw [Finset.mem_filter] at hb1 hb2
  omega

end Places

/-! ## The two greatest of a row -/

section Two
variable {n : Nat} (L : Fin n → EReal)

/-- The number of entries below one: the key of a sort by the entries themselves. -/
def key (i : Fin n) : Nat := (Finset.univ.filter fun k => L k < L i).card

theorem key_lt (i k : Fin n) : key L k < key L i ↔ L k < L i := by
  constructor
  · intro h
    by_contra hn
    have hle : L i ≤ L k := not_lt.1 hn
    have : key L i ≤ key L k := Finset.card_le_card fun x hx => by
      rw [Finset.mem_filter] at hx ⊢
      exact ⟨hx.1, lt_of_lt_of_le hx.2 hle⟩
    omega
  · intro h
    refine Finset.card_lt_card (Finset.ssubset_iff_subset_ne.2 ⟨fun x hx => ?_, fun he => ?_⟩)
    · rw [Finset.mem_filter] at hx ⊢
      exact ⟨hx.1, lt_trans hx.2 h⟩
    · have : k ∈ (Finset.univ.filter fun x => L x < L i) := Finset.mem_filter.2 ⟨Finset.mem_univ _, h⟩
      rw [← he, Finset.mem_filter] at this
      exact lt_irrefl _ this.2

/-- The entry that a sort by descending entries, equal ones in their order, puts at a place. -/
def pick (j : Fin n) : Fin n := sortedFrom (fun k k' => decide (L k' < L k)) j

theorem pick_lex {i j : Fin n} (hij : i < j) : L (pick L j) < L (pick L i) ∨ (L (pick L i) = L (pick L j) ∧ pick L i < pick L j) := by
  have h := sorted_lex (key L) (fun k k' => decide (L k' < L k)) (fun k k' => decide_eq_decide.2 (key_lt L k k').symm) hij
  rcases h with h | ⟨h, h'⟩
  · exact Or.inl ((key_lt L _ _).1 h)
  · refine Or.inr ⟨le_antisymm (not_lt.1 fun q => ?_) (not_lt.1 fun q => ?_), h'⟩
    · have := (key_lt L _ _).2 q
      unfold pick at this; omega
    · have := (key_lt L _ _).2 q
      unfold pick at this; omega

theorem pick_inj {i j : Fin n} (h : pick L i = pick L j) : i = j := sortedFrom_injective _ h

/-- Every entry that none of the places before `j` holds is at most the one at `j`, and below it if it stands before it. -/
theorem pick_spec (j k : Fin n) (hk : ∀ i < j, k ≠ pick L i) : L k ≤ L (pick L j) ∧ (k < pick L j → L k < L (pick L j)) := by
  obtain ⟨i, rfl⟩ : ∃ i, pick L i = k := sortedFrom_surjective _ k
  rcases lt_trichotomy j i with h | h | h
  · rcases pick_lex L h with h1 | ⟨h1, h2⟩
    · exact ⟨h1.le, fun _ => h1⟩
    · exact ⟨h1.symm.le, fun h3 => (lt_asymm h2 h3).elim⟩
  · subst h
    exact ⟨le_rfl, fun h3 => (lt_irrefl _ h3).elim⟩
  · exact (hk i h rfl).elim

end Two

/-! ## Counts -/

section Count
variable (e : Nat → Nat)

theorem count_lt_succ (x N : Nat) : Nat.count (fun b => e b < x + 1) N = Nat.count (fun b => e b < x) N + Nat.count (fun b => e b = x) N := by
  induction N with
  | zero => simp
  | succ N ih => rw [Nat.count_succ, Nat.count_succ, Nat.count_succ, ih]; split_ifs <;> omega

theorem count_below (x N : Nat) : Nat.count (fun b => e b < x) N = ((List.range x).map fun y => Nat.count (fun b => e b = y) N).sum := by
  induction x with
  | zero => simp [Nat.count_eq_card_filter_range]
  | succ x ih => rw [List.range_succ, List.map_append, List.sum_append, ← ih, List.map_singleton, List.sum_singleton, count_lt_succ]

theorem count_front (y a N : Nat) (ha : a ≤ N) : Nat.count (fun b => e b = y ∧ b < a) N = Nat.count (fun b => e b = y) a := by
  induction N, ha using Nat.le_induction with
  | base =>
    rw [Nat.count_eq_card_filter_range, Nat.count_eq_card_filter_range]
    refine congrArg Finset.card (Finset.filter_congr fun b hb => ?_)
    have := Finset.mem_range.1 hb
    exact ⟨fun h => h.1, fun h => ⟨h, this⟩⟩
  | succ N h ih => rw [Nat.count_succ, ih, if_neg (by omega), Nat.add_zero]

/-- The place of an entry, in a sort by ascending number: the entries of lesser number, and those of its own number before it. -/
theorem place_count {N : Nat} (hN : ∀ b, e b < 8) (before : Fin N → Fin N → Bool) (hb : ∀ k k', before k k' = decide (e k.val < e k'.val))
    (j a : Fin N) (ha : sortedFrom before j = a) :
    j.val = ((List.range (e a.val)).map fun y => Nat.count (fun b => e b = y) N).sum + Nat.count (fun b => e b = e a.val) a.val := by
  have h := place (fun k : Fin N => 7 - e k.val) before (fun k k' => (hb k k').trans (decide_eq_decide.2 (by have := hN k.val; have := hN k'.val; omega))) j a ha
  rw [h, ← count_below e (e a.val) N, ← count_front e (e a.val) a.val N a.isLt.le, ← card_filter_fin N, ← card_filter_fin N]
  refine congrArg₂ (· + ·) (congrArg Finset.card (Finset.filter_congr fun b _ => ?_)) (congrArg Finset.card (Finset.filter_congr fun b _ => ?_))
  · have := hN b.val; have := hN a.val; omega
  · have := hN b.val; have := hN a.val
    rw [Fin.lt_def]; omega

/-- The entries two by two: of the first `2 t`, those of number `y` are as many as the pairs that have it, if no pair has it twice. -/
theorem count_pairs (y t : Nat) (hd : ∀ u < t, e (2 * u) ≠ e (2 * u + 1)) :
    Nat.count (fun b => e b = y) (2 * t) = Nat.count (fun u => e (2 * u) = y ∨ e (2 * u + 1) = y) t := by
  induction t with
  | zero => simp
  | succ t ih =>
    rw [show 2 * (t + 1) = 2 * t + 1 + 1 by ring, Nat.count_succ, Nat.count_succ, Nat.count_succ, ih fun u hu => hd u (by omega)]
    have := hd t (by omega)
    split_ifs <;> omega

end Count

/-! ## The count as a scatter of ones leaves it -/

theorem foldl_hits {ι : Type} (hit : ι → Prop) [DecidablePred hit] (u : ι → BitVec 32) (hu : ∀ n, u n = 1#32) (l : List ι) (v : BitVec 32) (z : Nat)
    (hv : v = BitVec.ofNat 32 z) :
    l.foldl (fun a n => if hit n then IntOp.addi a (u n) else a) v = BitVec.ofNat 32 (z + l.countP fun n => decide (hit n)) := by
  induction l generalizing v z with
  | nil => simpa using hv
  | cons a l ih =>
    rw [List.foldl_cons, List.countP_cons]
    by_cases h : hit a
    · rw [if_pos h, ih _ (z + 1) (by rw [hv, hu]; exact (BitVec.ofNat_add z 1).symm), if_pos (decide_eq_true h)]
      exact congrArg _ (by omega)
    · rw [if_neg h, ih _ z hv, if_neg (by simpa using h)]
      rfl

/-- The scatter of `N` numbers into a table of `K` entries. -/
abbrev table (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

theorem table_count {K N : Nat} (wf : ScatterDims.WF ⟨1, ![K]⟩ ⟨2, ![N, 1]⟩ ⟨1, ![N]⟩ [] [0] [0] 1)
    (x0 : IVec ⟨1, ![K]⟩ 32) (hx0 : ∀ i, x0 i = 0#32) (idx : IVec ⟨2, ![N, 1]⟩ 32) (u : IVec ⟨1, ![N]⟩ 32) (hu : ∀ i, u i = 1#32)
    (e : Nat → Nat) (he : ∀ b, e b < 2 ^ 31) (hidx : ∀ i : Fin N, idx (ix2 i (0 : Fin 1)) = BitVec.ofNat 32 (e i.val)) (x : Fin K) :
    Host.scatter (table K N wf) IntOp.addi x0 idx u (ix1 x) = BitVec.ofNat 32 (Nat.count (fun b => e b = x.val) N) := by
  have hl : ∀ i : Fin N, (table K N wf).resultIdx? (ix1 i) idx = some (ix1 x) ↔ e i.val = x.val := by
    intro i
    have hs : (table K N wf).start (ix1 i) idx (0 : Fin 1) = (e i.val : Int) := by
      unfold ScatterDims.start
      have h0 : (0 : Fin 1) ∈ (table K N wf).scatterDimsToOperandDims := List.mem_cons_self
      have hsi : (table K N wf).siIdx (ix1 i) ⟨List.idxOf (0 : Fin 1) (table K N wf).scatterDimsToOperandDims, List.idxOf_lt_length_iff.2 h0⟩ = ix2 i (0 : Fin 1) := by
        funext b; refine Fin.ext ?_
        match b with
        | ⟨0, _⟩ => rfl
        | ⟨1, _⟩ => rfl
      refine (dif_pos h0).trans ?_
      rw [hsi, hidx, StableHlo.Predicate.toInt_ofNat_small _ (he _)]
    have hw : (table K N wf).window (ix1 i) (0 : Fin 1) = 0 := rfl
    refine (resultIdx?_ix1 _ _ _ x).trans ?_
    rw [hs, hw]
    omega
  rw [scatter_at]
  refine (foldl_hits _ _ (fun n => hu _) _ _ 0 (hx0 _)).trans ?_
  rw [Nat.zero_add]
  refine congrArg (BitVec.ofNat 32) (((List.countP_congr fun n _ => ?_).trans (countP_finRange _ fun b => e b = x.val)).trans (by rw [numel1]))
  rw [decide_eq_true_iff, decide_eq_true_iff, symm1]
  exact hl _

/-! ## The greatest and the first of a row -/

/-- The greatest entry of a row. -/
theorem fold_greatest {ι : Type} [Fintype ι] (f : ι → EReal) (b M : EReal) (q : ι) (hq : f q = M) (hf : ∀ l, f l ≤ M) (hb : b ≤ M) :
    (Finset.univ : Finset ι).fold max b f = M := by
  refine le_antisymm ((Finset.fold_max_le M).2 ⟨hb, fun x _ => hf x⟩) ?_
  exact (Finset.le_fold_max M).2 (Or.inr ⟨q, Finset.mem_univ _, hq.ge⟩)

/-- The least of a row of words that hold small numbers. -/
theorem fold_least {ι : Type} [Fintype ι] (f : ι → BitVec 32) (g : ι → Nat) (hf : ∀ l, f l = BitVec.ofNat 32 (g l)) (hg : ∀ l, g l < 2 ^ 31)
    (q : ι) (hq : ∀ l, g q ≤ g l) :
    (Finset.univ : Finset ι).fold IntOp.minsi 2147483647#32 f = BitVec.ofNat 32 (g q) := by
  have ht : ∀ l, (f l).toInt = (g l : Int) := fun l => by rw [hf, StableHlo.Predicate.toInt_ofNat_small _ (hg l)]
  rw [← hf q]
  apply BitVec.eq_of_toInt_eq
  have hlo := (Finset.fold_op_rel_iff_and (op := IntOp.minsi (w := 32)) (r := fun c y : BitVec 32 => c.toInt ≤ y.toInt)
    (fun {x y z} => by rw [SortNet.toInt_minsi]; exact le_min_iff) (b := 2147483647#32) (f := f) (s := Finset.univ) (c := f q)).2
    ⟨by rw [ht]; have := hg q; have : (2147483647#32).toInt = 2147483647 := by decide
        omega, fun x _ => by rw [ht, ht]; exact_mod_cast hq x⟩
  have hhi := (Finset.fold_op_rel_iff_or (op := IntOp.minsi (w := 32)) (r := fun c y : BitVec 32 => y.toInt ≤ c.toInt)
    (fun {x y z} => by rw [SortNet.toInt_minsi]; exact min_le_iff) (b := 2147483647#32) (f := f) (s := Finset.univ) (c := f q)).2
    (Or.inr ⟨q, Finset.mem_univ _, le_rfl⟩)
  exact le_antisymm hhi hlo

/-- A sum of ones where a property holds. -/
theorem sum_ones {N : Nat} (Q : Nat → Prop) [DecidablePred Q] : (∑ k : Fin N, if Q k.val then (1 : EReal) else 0) = ((Nat.count Q N : Nat) : EReal) := by
  rw [Finset.sum_boole, card_filter_fin N Q]

end Cert.Proof.Ranks

end
-- ==== Proof.Choice.lean ====
/-
  The choice of two experts for every token, as the reference makes it: the two greatest logits, a softmax over them, a stable sort
  of the assignments by expert, and each assignment's place among its expert's. Here each of these is read at an index: the rank of
  an assignment is the number of assignments before it that go to the same expert.
-/
module

public import proofs.«01_k».proof.Proof.Gen.Reference8Ideal.Run
public import Idealize.ShloMosaic.Lib.Routing.Words
public import proofs.«01_k».proof.Proof.Ranks

@[expose] public section

set_option maxRecDepth 16384

noncomputable section

namespace Cert.Proof.Choice

open Cert.Proof.Ranks Cert.Reference8Ideal Cert.Reference8Ideal.Gen Idealize.ShloMosaic Idealize.ShloMosaic.Routing
open scoped BigOperators

/-! ## The reference's terms, by name -/

/-- The constant list of one word. -/
def const (v : BitVec 32) : IVec S131072 32 := broadcastInDim S131072 ![] bcast_S_S131072 (constantI S_ 32 v)
/-- A list of words as indices: a negative one counted from the end, one to a row. -/
def starts (x : IVec S131072 32) (v : BitVec 32) : IVec S131072x1 32 :=
  broadcastInDim S131072x1 ![0] bcast_S131072_S131072x1_0 (select (cmpi .slt x (const 0#32)) (addi x (const v)) x)
/-- The logits of every token. -/
def logits (a0 : FVec Ideal S16x4096x1024 .f32) (a1 : FVec Ideal S1024x8 .f32) : FVec Ideal S65536x8 .f32 :=
  Host.dotGeneral dot_S65536x1024_S1024x8_S65536x8_1_0_0_1_n_n none (shapeCast S65536x1024 a0 shapeCasts_S16x4096x1024_S65536x1024) a1
/-- The two greatest of every token, and their experts. -/
def top (lg : FVec Ideal S65536x8 .f32) : FVec Ideal S65536x2 .f32 × IVec S65536x2 32 :=
  Host.topK S65536x2 1 (FloatOps.cmpfTotal (F := Ideal) .gt) lg sliceFits_S65536x8_S65536x2
/-- The expert of every assignment. -/
def expert (ti : IVec S65536x2 32) : IVec S131072 32 := shapeCast S131072 ti shapeCasts_S65536x2_S131072
/-- The assignments in the order of their experts. -/
def order (ex : IVec S131072 32) : IVec S131072 32 := (Host.sort2 S131072 0 comparator_i32_i32_d0 ex (iotaInDim S131072 32 0)).2
/-- The number of assignments of every expert. -/
def counts (ex : IVec S131072 32) : IVec S8 32 :=
  Host.scatter scatter_S8_S131072x1_S131072_n_0_0_1 IntOp.addi (broadcastInDim S8 ![] bcast_S_S8 (constantI S_ 32 0#32))
    (starts (maxsi (broadcastInDim S131072 ![] bcast_S_S131072 (id (constantI S_ 32 0#32))) ex) 8#32) (const 1#32)
/-- The first place of every expert. -/
def firsts (cn : IVec S8 32) : IVec S8 32 :=
  subi (Host.reduceWindow IntOp.addi ![8] ![1] ![7] ![0] cn (broadcastInDim S_ ![] bcast_S_S_ (constantI S_ 32 0#32)) reduceWindows_S8_S8_w8s1p7_0 h_S_) cn
/-- The assignments' experts in their order. -/
def sorted (ex : IVec S131072 32) : IVec S131072 32 :=
  Host.gather gather_S131072_S131072x1_S131072_n_0_n_n_0_1_1 ex (starts (order ex) 131072#32)
/-- Every assignment's place among its expert's. -/
def ranks (ex : IVec S131072 32) : IVec S131072 32 :=
  Host.scatter scatter_S131072_S131072x1_S131072_n_0_0_1 (fun _ b => b) (const 0#32) (starts (order ex) 131072#32)
    (subi (iotaInDim S131072 32 0) (Host.gather gather_S8_S131072x1_S131072_n_0_n_n_0_1_1 (firsts (counts ex)) (starts (sorted ex) 8#32)))

/-! ## The indices -/

theorem starts_apply (x : IVec S131072 32) (v : BitVec 32) (j : Fin 131072) (n : Nat) (hn : n < 2 ^ 31) (hx : x (ix1 j) = BitVec.ofNat 32 n) :
    starts x v (ix2 j (0 : Fin 1)) = BitVec.ofNat 32 n := by
  unfold starts
  refine (bcCol _ _ j).trans ?_
  show Scalar.select (IntOp.cmpi .slt (x (ix1 j)) (const 0#32 (ix1 j))) _ (x (ix1 j)) = _
  have h0 : const 0#32 (ix1 j) = 0#32 := bc0 _ _ _
  rw [h0, wrap_of_lt _ _ (by rw [hx, BitVec.toNat_ofNat]; exact lt_of_le_of_lt (Nat.mod_le _ _) hn), hx]

theorem along_row {n : Nat} (j k : Fin n) : Shape.Idx.along (s := ⟨1, ![n]⟩) (ix1 j) (0 : Fin 1) k = ix1 k :=
  (Shape.Idx.along_rank1 _ _).trans (ofFin_eq_ix1 k)

theorem sort2_row {α β : Type} {n : Nat} (cmp : α × β → α × β → BitVec 1) (x : (⟨1, ![n]⟩ : Shape).Idx → α) (y : (⟨1, ![n]⟩ : Shape).Idx → β) (j : Fin n) :
    (Host.sort2 ⟨1, ![n]⟩ 0 cmp x y).2 (ix1 j)
      = y (ix1 (sortedFrom (fun k k' => cmp (x (ix1 k), y (ix1 k)) (x (ix1 k'), y (ix1 k')) == 1#1) j)) := by
  refine Eq.trans (b := y (Shape.Idx.along (s := ⟨1, ![n]⟩) (ix1 j) (0 : Fin 1) (sortedFrom (n := n) (fun k k' =>
    cmp (x (Shape.Idx.along (s := ⟨1, ![n]⟩) (ix1 j) (0 : Fin 1) k), y (Shape.Idx.along (s := ⟨1, ![n]⟩) (ix1 j) (0 : Fin 1) k))
      (x (Shape.Idx.along (s := ⟨1, ![n]⟩) (ix1 j) (0 : Fin 1) k'), y (Shape.Idx.along (s := ⟨1, ![n]⟩) (ix1 j) (0 : Fin 1) k')) == 1#1) j))) rfl ?_
  simp only [along_row]

section Order
variable (ex : IVec S131072 32) (e : Nat → Nat) (he : ∀ b, e b < 8) (hex : ∀ a : Fin 131072, ex (ix1 a) = BitVec.ofNat 32 (e a.val))
include he hex

/-- The sort's own comparison, in numbers. -/
theorem before_eq (k k' : Fin 131072) :
    (comparator_i32_i32_d0 (ex (ix1 k), BitVec.ofNat 32 k.val) (ex (ix1 k'), BitVec.ofNat 32 k'.val) == 1#1) = decide (e k.val < e k'.val) := by
  have h1 := he k.val
  have h2 := he k'.val
  show (BitVec.ofBool ((ex (ix1 k)).slt (ex (ix1 k'))) == 1#1) = _
  rw [hex, hex, BitVec.slt_eq_decide, StableHlo.Predicate.toInt_ofNat_small _ (by omega), StableHlo.Predicate.toInt_ofNat_small _ (by omega)]
  by_cases h : e k.val < e k'.val
  · rw [decide_eq_true h, decide_eq_true (by exact_mod_cast h)]; rfl
  · rw [decide_eq_false h, decide_eq_false (by exact_mod_cast h)]; rfl

/-- The assignment at a place. -/
def at_place (e : Nat → Nat) (j : Fin 131072) : Fin 131072 := sortedFrom (fun k k' => decide (e k.val < e k'.val)) j

theorem order_apply (j : Fin 131072) : order ex (ix1 j) = BitVec.ofNat 32 (at_place e j).val := by
  unfold order at_place
  rw [← funext fun k => funext fun k' => before_eq ex e he hex k k']
  exact sort2_row comparator_i32_i32_d0 ex (iotaInDim S131072 32 0) j

theorem sorted_apply (j : Fin 131072) : sorted ex (ix1 j) = BitVec.ofNat 32 (e (at_place e j).val) := by
  unfold sorted
  refine (gather_take1 _ rfl rfl rfl rfl ex _ j (at_place e j) ?_ (by decide)).trans (hex _)
  exact starts_apply _ _ _ _ (by have := (at_place e j).isLt; omega) (order_apply ex e he hex j)

theorem counts_apply (x : Fin 8) : counts ex (ix1 x) = BitVec.ofNat 32 (Nat.count (fun b => e b = x.val) 131072) := by
  unfold counts
  refine table_count _ _ (fun i => bc0 _ _ i) _ _ (fun i => bc0 _ _ i) e (fun b => lt_trans (he b) (by decide)) (fun i => ?_) x
  refine starts_apply _ _ i _ (lt_trans (he _) (by decide)) ?_
  show IntOp.maxsi (broadcastInDim S131072 ![] bcast_S_S131072 (id (constantI S_ 32 0#32)) (ix1 i)) (ex (ix1 i)) = _
  rw [hex, show broadcastInDim S131072 ![] bcast_S_S131072 (id (constantI S_ 32 0#32)) (ix1 i) = 0#32 from bc0 _ _ _]
  exact maxsi_zero_left (lt_trans (he _) (by decide))

theorem firsts_apply (x : Fin 8) :
    firsts (counts ex) (ix1 x) = BitVec.ofNat 32 ((List.range x.val).map fun y => Nat.count (fun b => e b = y) 131072).sum := by
  unfold firsts
  show IntOp.subi (Host.reduceWindow IntOp.addi ![8] ![1] ![7] ![0] (counts ex) _ _ _ (ix1 x)) (counts ex (ix1 x)) = _
  have h := cumsum1 (N := 8) (Nm1 := 7) rfl (counts ex) (fun y => Nat.count (fun b => e b = y) 131072) (fun i => counts_apply ex e he hex i)
    (broadcastInDim S_ ![] bcast_S_S_ (constantI S_ 32 0#32)) (bc0 _ _ _) reduceWindows_S8_S8_w8s1p7_0 h_S_ x
  refine (congrArg₂ IntOp.subi h (counts_apply ex e he hex x)).trans ?_
  rw [List.range_succ, List.map_append, List.sum_append, List.map_singleton, List.sum_singleton, BitVec.ofNat_add]
  exact BitVec.add_sub_cancel _ _

/-- The rank of an assignment: the assignments before it with its expert. -/
theorem ranks_apply (a : Fin 131072) : ranks ex (ix1 a) = BitVec.ofNat 32 (Nat.count (fun b => e b = e a.val) a.val) := by
  unfold ranks
  obtain ⟨j, hj⟩ : ∃ j, at_place e j = a := sortedFrom_surjective _ a
  refine (scatter_set _ rfl rfl rfl _ _ _ (fun i => if h : i < 131072 then (at_place e ⟨i, h⟩).val else 0) (fun i => ?_) (fun i => ?_) a _ fun i hi => ?_).1 ⟨j, ?_⟩
  · rw [dif_pos i.isLt]
    exact starts_apply _ _ i _ (by have := (at_place e i).isLt; omega) (order_apply ex e he hex i)
  · rw [dif_pos i.isLt]
    have := (at_place e i).isLt; omega
  · rw [dif_pos i.isLt] at hi
    have hi' : at_place e i = a := Fin.ext hi
    show IntOp.subi (BitVec.ofNat 32 i.val) (Host.gather _ _ _ (ix1 i)) = _
    have hg : Host.gather gather_S8_S131072x1_S131072_n_0_n_n_0_1_1 (firsts (counts ex)) (starts (sorted ex) 8#32) (ix1 i)
        = BitVec.ofNat 32 ((List.range (e a.val)).map fun y => Nat.count (fun b => e b = y) 131072).sum := by
      refine (gather_take1 _ rfl rfl rfl rfl _ _ i (⟨e a.val, he _⟩ : Fin 8) ?_ (by decide)).trans (firsts_apply ex e he hex _)
      refine starts_apply _ _ i _ (lt_trans (he _) (by decide)) ?_
      rw [sorted_apply ex e he hex, hi']
    rw [hg]
    have hp := place_count e he (N := 131072) (fun k k' => decide (e k.val < e k'.val)) (fun _ _ => rfl) i a hi'
    rw [hp, BitVec.ofNat_add, BitVec.add_comm]
    exact BitVec.add_sub_cancel _ _
  · rw [dif_pos j.isLt]
    exact congrArg Fin.val hj

end Order

/-! ## The two greatest of a token -/

theorem along_col {R n : Nat} (t : Fin R) (j k : Fin n) : Shape.Idx.along (s := ⟨2, ![R, n]⟩) (ix2 t j) (1 : Fin 2) k = ix2 t k := by
  funext a; refine Fin.ext ?_
  match a with
  | ⟨0, _⟩ => rfl
  | ⟨1, _⟩ => rfl

theorem sort2_col {α β : Type} {R n : Nat} (cmp : α × β → α × β → BitVec 1) (x : (⟨2, ![R, n]⟩ : Shape).Idx → α) (y : (⟨2, ![R, n]⟩ : Shape).Idx → β)
    (t : Fin R) (j q : Fin n) (hq : sortedFrom (fun k k' => cmp (x (ix2 t k), y (ix2 t k)) (x (ix2 t k'), y (ix2 t k')) == 1#1) j = q) :
    (Host.sort2 ⟨2, ![R, n]⟩ 1 cmp x y).1 (ix2 t j) = x (ix2 t q) ∧ (Host.sort2 ⟨2, ![R, n]⟩ 1 cmp x y).2 (ix2 t j) = y (ix2 t q) := by
  have h : Shape.Idx.along (s := ⟨2, ![R, n]⟩) (ix2 t j) (1 : Fin 2) (sortedFrom (n := n) (fun k k' =>
    cmp (x (Shape.Idx.along (s := ⟨2, ![R, n]⟩) (ix2 t j) (1 : Fin 2) k), y (Shape.Idx.along (s := ⟨2, ![R, n]⟩) (ix2 t j) (1 : Fin 2) k))
      (x (Shape.Idx.along (s := ⟨2, ![R, n]⟩) (ix2 t j) (1 : Fin 2) k'), y (Shape.Idx.along (s := ⟨2, ![R, n]⟩) (ix2 t j) (1 : Fin 2) k')) == 1#1) j) = ix2 t q := by
    simp only [along_col]
    rw [hq]
  exact ⟨congrArg x h, congrArg y h⟩

section Top
variable (lg : FVec Ideal S65536x8 .f32)

/-- The logits of a token. -/
def row (t : Fin 65536) : Fin 8 → EReal := fun k => lg (ix2 t k)

/-- The place, among eight, of one of two. -/
def two (s : Fin 2) : Fin 8 := ⟨s.val, by omega⟩

theorem top_apply (t : Fin 65536) (s : Fin 2) :
    (top lg).1 (ix2 t s) = row lg t (pick (row lg t) (two s)) ∧ (top lg).2 (ix2 t s) = BitVec.ofNat 32 (pick (row lg t) (two s)).val := by
  have hs : ∀ {α : Type} (x : S65536x8.Idx → α), extractStridedSlice S65536x2 (fun _ => 0) x sliceFits_S65536x8_S65536x2 (ix2 t s) = x (ix2 t (two s)) := by
    intro α x
    unfold extractStridedSlice
    refine congrArg x (funext fun a => Fin.ext ?_)
    match a with
    | ⟨0, _⟩ => exact Nat.zero_add _
    | ⟨1, _⟩ => exact Nat.zero_add _
  have hb : (fun k k' : Fin 8 => (FloatOps.cmpfTotal (F := Ideal) (φ := .f32) .gt (lg (ix2 t k)) (lg (ix2 t k')) == 1#1)) = fun k k' => decide (row lg t k' < row lg t k) := by
    funext k k'
    show (BitVec.ofBool (decide (lg (ix2 t k') < lg (ix2 t k))) == 1#1) = decide (lg (ix2 t k') < lg (ix2 t k))
    generalize decide (lg (ix2 t k') < lg (ix2 t k)) = c
    cases c <;> rfl
  have h := sort2_col (R := 65536) (n := 8) (fun l r : Ideal .f32 × BitVec 32 => FloatOps.cmpfTotal .gt l.1 r.1) lg
    (fun i => if hd : 1 < S65536x8.rank then iotaInDim S65536x8 32 ⟨1, hd⟩ i else 0#32) t (two s) (pick (row lg t) (two s)) (by unfold pick; rw [← hb])
  exact ⟨(hs _).trans h.1, (hs _).trans (h.2.trans (dif_pos (show 1 < S65536x8.rank by decide)))⟩

/-- The expert of an assignment, by number. -/
def num (b : Nat) : Nat := if h : b / 2 < 65536 then (pick (row lg ⟨b / 2, h⟩) (two ⟨b % 2, Nat.mod_lt _ (by decide)⟩)).val else 0

theorem num_lt (b : Nat) : num lg b < 8 := by
  unfold num; split
  · exact Fin.isLt _
  · decide

theorem num_eq (t : Fin 65536) (s : Fin 2) : num lg (2 * t.val + s.val) = (pick (row lg t) (two s)).val := by
  have h1 : (2 * t.val + s.val) / 2 = t.val := by omega
  have h2 : (2 * t.val + s.val) % 2 = s.val := by omega
  unfold num
  rw [dif_pos (by omega)]
  have : (⟨(2 * t.val + s.val) / 2, by omega⟩ : Fin 65536) = t := Fin.ext h1
  rw [this]
  have : (⟨(2 * t.val + s.val) % 2, Nat.mod_lt _ (by decide)⟩ : Fin 2) = s := Fin.ext h2
  rw [this]

theorem expert_apply (a : Fin 131072) : expert (top lg).2 (ix1 a) = BitVec.ofNat 32 (num lg a.val) := by
  have h : a.val = 2 * (a.val / 2) + a.val % 2 := by omega
  unfold expert
  refine (cast21 _ _ (⟨a.val / 2, by omega⟩ : Fin 65536) (⟨a.val % 2, by omega⟩ : Fin 2) a (by show a.val = a.val / 2 * 2 + a.val % 2; omega)).trans ?_
  refine (top_apply lg _ _).2.trans ?_
  rw [← num_eq lg]
  exact congrArg (fun b => BitVec.ofNat 32 (num lg b)) h.symm

/-- Whether a token goes to the expert of a number. -/
def goes (x : Nat) (t : Nat) : Prop := num lg (2 * t) = x ∨ num lg (2 * t + 1) = x
instance (x : Nat) : DecidablePred (goes lg x) := fun t => inferInstanceAs (Decidable (_ ∨ _))

theorem num_ne (t : Nat) (ht : t < 65536) : num lg (2 * t) ≠ num lg (2 * t + 1) := by
  have h0 := num_eq lg ⟨t, ht⟩ 0
  have h1 := num_eq lg ⟨t, ht⟩ 1
  intro h
  have hp : pick (row lg ⟨t, ht⟩) (two 0) = pick (row lg ⟨t, ht⟩) (two 1) := Fin.ext (h0.symm.trans (h.trans h1))
  exact absurd (congrArg Fin.val (pick_inj _ hp)) (by decide)

theorem count_goes (x t : Nat) (ht : t ≤ 65536) : Nat.count (fun b => num lg b = x) (2 * t) = Nat.count (goes lg x) t :=
  count_pairs (num lg) x t fun u hu => num_ne lg u (by omega)

/-- The rank of either assignment of a token: the tokens before it that go to the same expert. -/
theorem rank_apply (t : Fin 65536) (s : Fin 2) :
    shapeCast S65536x2 (ranks (expert (top lg).2)) shapeCasts_S131072_S65536x2 (ix2 t s)
      = BitVec.ofNat 32 (Nat.count (goes lg (pick (row lg t) (two s)).val) t.val) := by
  have ha : 2 * t.val + s.val < 131072 := by omega
  refine (cast12 _ _ t s (⟨2 * t.val + s.val, ha⟩ : Fin 131072) (by show 2 * t.val + s.val = t.val * 2 + s.val; omega)).trans ?_
  refine (ranks_apply _ (num lg) (num_lt lg) (expert_apply lg) _).trans (congrArg (BitVec.ofNat 32) ?_)
  show Nat.count (fun b => num lg b = num lg (2 * t.val + s.val)) (2 * t.val + s.val) = _
  rw [num_eq lg, ← count_goes lg _ t.val t.isLt.le]
  match s with
  | ⟨0, _⟩ => rfl
  | ⟨1, _⟩ =>
    show Nat.count _ (2 * t.val + 1) = _
    rw [Nat.count_succ, if_neg, Nat.add_zero]
    intro h
    refine num_ne lg t.val t.isLt (h.trans ?_)
    exact (num_eq lg t 1).symm

theorem total_apply (x : Fin 8) : counts (expert (top lg).2) (ix1 x) = BitVec.ofNat 32 (Nat.count (goes lg x.val) 65536) :=
  (counts_apply _ (num lg) (num_lt lg) (expert_apply lg) x).trans (congrArg _ (count_goes lg x.val 65536 le_rfl))

end Top

/-! ## The gates -/

/-- The greatest of the two logits of every token. -/
def peak (tv : FVec Ideal S65536x2 .f32) : FVec Ideal S65536 .f32 :=
  maximumf (broadcastInDim S65536 ![] bcast_S_S65536 (constant S_ .f32 0xFF800000#32)) (Host.reduce FloatOps.maximumf tv (constant S_ .f32 0xFF800000#32) reducesTo_S65536x2_S65536_d1 h_S_)
/-- A number of every token, for both its logits. -/
def both (x : FVec Ideal S65536 .f32) : FVec Ideal S65536x2 .f32 :=
  broadcastInDim S65536x2 ![0, 1] bcast_S65536x1_S65536x2_0_1 (broadcastInDim S65536x1 ![0] bcast_S65536_S65536x1_0 x)
def powers (tv : FVec Ideal S65536x2 .f32) : FVec Ideal S65536x2 .f32 := Host.exp (subf tv (both (peak tv)))
/-- The softmax over the two. -/
def gates (tv : FVec Ideal S65536x2 .f32) : FVec Ideal S65536x2 .f32 :=
  Host.divf (powers tv) (both (Host.reduceAdd (powers tv) (constant S_ .f32 0x00000000#32) reducesTo_S65536x2_S65536_d1 h_S_))

theorem both_apply (x : FVec Ideal S65536 .f32) (t : Fin 65536) (s : Fin 2) : both x (ix2 t s) = x (ix1 t) := bcRows _ _ _ t s

theorem bits_bot : Ideal.ofBits FTy.f32 4286578688#32 = ⊥ := by simp [Ideal.ofBits, Ideal.ieee]

theorem peak_apply (tv : FVec Ideal S65536x2 .f32) (t : Fin 65536) (h : tv (ix2 t 1) ≤ tv (ix2 t 0)) : peak tv (ix1 t) = tv (ix2 t 0) := by
  unfold peak
  simp only [pointwise]
  rw [bits_bot, bot_sup_eq]
  exact fold_greatest _ _ _ 0 rfl (fun k => by fin_cases k <;> first | exact le_rfl | exact h) bot_le

theorem powers_apply (tv : FVec Ideal S65536x2 .f32) (t : Fin 65536) (s : Fin 2) (h : tv (ix2 t 1) ≤ tv (ix2 t 0)) :
    powers tv (ix2 t s) = Ideal.exp (tv (ix2 t s) - tv (ix2 t 0)) := by
  unfold powers
  simp only [pointwise, both_apply, peak_apply tv t h]

theorem gates_apply (tv : FVec Ideal S65536x2 .f32) (t : Fin 65536) (s : Fin 2) (h : tv (ix2 t 1) ≤ tv (ix2 t 0)) :
    gates tv (ix2 t s) = Ideal.div (Ideal.exp (tv (ix2 t s) - tv (ix2 t 0))) (Ideal.exp (tv (ix2 t 0) - tv (ix2 t 0)) + Ideal.exp (tv (ix2 t 1) - tv (ix2 t 0))) := by
  unfold gates
  simp only [pointwise, both_apply, powers_apply tv t _ h]
  rw [Fin.sum_univ_two, zero_add]

/-! ## The two results -/

/-- The table that the reference leaves: a token's experts, gates and ranks, and zeros. -/
def G0 (a0 : FVec Ideal S16x4096x1024 .f32) (a1 : FVec Ideal S1024x8 .f32) : FVec Ideal S65536x128 .f32 :=
  concatenate S65536x128 1 [⟨S65536x2, sitofp .f32 (top (logits a0 a1)).2⟩, ⟨S65536x2, gates (top (logits a0 a1)).1⟩,
    ⟨S65536x2, sitofp .f32 (shapeCast S65536x2 (ranks (expert (top (logits a0 a1)).2)) shapeCasts_S131072_S65536x2)⟩,
    ⟨S65536x122, broadcastInDim S65536x122 ![] bcast_S_S65536x122 (constant S_ .f32 0x00000000#32)⟩] concatenates_S65536x2_S65536x2_S65536x2_S65536x122_S65536x128_d1
/-- The experts' numbers of assignments, as the reference leaves them. -/
def G1 (a0 : FVec Ideal S16x4096x1024 .f32) (a1 : FVec Ideal S1024x8 .f32) : FVec Ideal S8x128 .f32 :=
  broadcastInDim S8x128 ![1] bcast_S128_S8x128_1 (pad S128 ![0] ![120] ![0] (sitofp .f32 (counts (expert (top (logits a0 a1)).2))) (sitofp .f32 (constantI S_ 32 0#32)) pads_S8_S128_01200 h_S_)

/-- A count below 2³¹, as a float. -/
theorem float_ofNat (n : Nat) (hn : n < 2 ^ 31) : (((BitVec.ofNat 32 n).toInt : ℝ) : EReal) = ((n : Nat) : EReal) := by
  rw [StableHlo.Predicate.toInt_ofNat_small _ hn, Int.cast_natCast]
  rfl

/-- A token's share of its first expert and of its second, by the difference of their logits. -/
def share (d : EReal) (s : Fin 2) : EReal := Ideal.div (if s = 0 then 1 else Ideal.exp d) (1 + Ideal.exp d)

section Values
variable (a0 : FVec Ideal S16x4096x1024 .f32) (a1 : FVec Ideal S1024x8 .f32) (t : Fin 65536)

/-- The logit of a token's first or second expert. -/
def lead (lg : FVec Ideal S65536x8 .f32) (t : Fin 65536) (s : Fin 2) : EReal := row lg t (pick (row lg t) (two s))

theorem gates_value (lg : FVec Ideal S65536x8 .f32) (s : Fin 2) (hb : lead lg t 0 ≠ ⊥) (ht : lead lg t 0 ≠ ⊤) :
    gates (top lg).1 (ix2 t s) = share (lead lg t 1 - lead lg t 0) s := by
  have h0 : (top lg).1 (ix2 t 0) = lead lg t 0 := (top_apply lg t 0).1
  have h1 : (top lg).1 (ix2 t 1) = lead lg t 1 := (top_apply lg t 1).1
  have hle : lead lg t 1 ≤ lead lg t 0 := by
    rcases pick_lex (row lg t) (show two 0 < two 1 by decide) with h | h
    · exact h.le
    · exact h.1.ge
  rw [gates_apply _ _ _ (by rw [h0, h1]; exact hle), h0, h1, EReal.sub_self ht hb]
  unfold share
  have h1' : Ideal.exp 0 = 1 := by rw [← EReal.coe_zero, Ideal.exp_coe, Real.exp_zero]; rfl
  rw [h1']
  match s with
  | ⟨0, _⟩ =>
    rw [if_pos (show (⟨0, _⟩ : Fin 2) = 0 from rfl)]
    show Ideal.div (Ideal.exp ((top lg).1 (ix2 t 0) - _)) _ = _
    rw [h0, EReal.sub_self ht hb, h1']
  | ⟨1, _⟩ =>
    rw [if_neg (show ¬ (⟨1, _⟩ : Fin 2) = 0 from fun h => absurd (congrArg Fin.val h) Nat.one_ne_zero)]
    show Ideal.div (Ideal.exp ((top lg).1 (ix2 t 1) - _)) _ = _
    rw [h1]

/-- The table at a token and a lane. -/
def info (lg : FVec Ideal S65536x8 .f32) (t : Fin 65536) (l : Nat) : EReal :=
  if l < 2 then ((num lg (2 * t.val + l) : Nat) : EReal)
  else if l < 4 then share (lead lg t 1 - lead lg t 0) (if l = 2 then 0 else 1)
  else if l < 6 then ((Nat.count (goes lg (num lg (2 * t.val + (l - 4)))) t.val : Nat) : EReal)
  else 0

theorem four_apply (A B C : FVec Ideal S65536x2 .f32) (l : Fin 128) :
    concatenate S65536x128 1 [⟨S65536x2, A⟩, ⟨S65536x2, B⟩, ⟨S65536x2, C⟩,
      ⟨S65536x122, broadcastInDim S65536x122 ![] bcast_S_S65536x122 (constant (F := Ideal) S_ .f32 0x00000000#32)⟩] concatenates_S65536x2_S65536x2_S65536x2_S65536x122_S65536x128_d1 (ix2 t l)
      = if h : l.val < 2 then A (ix2 t ⟨l.val, h⟩) else if h : l.val - 2 < 2 then B (ix2 t ⟨l.val - 2, h⟩)
        else if h : l.val - 2 - 2 < 2 then C (ix2 t ⟨l.val - 2 - 2, h⟩) else 0 := by
  simp only [pointwise]
  rfl

theorem G0_apply (hb : lead (logits a0 a1) t 0 ≠ ⊥) (ht : lead (logits a0 a1) t 0 ≠ ⊤) (l : Fin 128) :
    G0 a0 a1 (ix2 t l) = info (logits a0 a1) t l.val := by
  unfold G0
  refine (four_apply t _ _ _ l).trans ?_
  unfold info
  by_cases h1 : l.val < 2
  · rw [dif_pos h1, if_pos h1]
    show ((((top (logits a0 a1)).2 (ix2 t ⟨l.val, h1⟩)).toInt : ℝ) : EReal) = _
    rw [(top_apply _ t ⟨l.val, h1⟩).2, ← num_eq, float_ofNat _ (lt_trans (num_lt _ _) (by decide))]
  · rw [dif_neg h1, if_neg h1]
    by_cases h2 : l.val < 4
    · rw [dif_pos (show l.val - 2 < 2 by omega), if_pos h2, gates_value t _ _ hb ht]
      congr 1
      split
      · exact Fin.ext (by show l.val - 2 = 0; omega)
      · exact Fin.ext (by show l.val - 2 = 1; omega)
    · rw [dif_neg (show ¬ l.val - 2 < 2 by omega), if_neg h2]
      by_cases h3 : l.val < 6
      · rw [dif_pos (show l.val - 2 - 2 < 2 by omega), if_pos h3]
        show (((shapeCast S65536x2 (ranks (expert (top (logits a0 a1)).2)) shapeCasts_S131072_S65536x2 (ix2 t ⟨l.val - 2 - 2, _⟩)).toInt : ℝ) : EReal) = _
        rw [rank_apply, float_ofNat _ (lt_of_le_of_lt (Nat.count_le _) (by omega)), ← num_eq]
        rfl
      · rw [dif_neg (show ¬ l.val - 2 - 2 < 2 by omega), if_neg h3]

theorem G1_apply (r : Fin 8) (l : Fin 128) :
    G1 a0 a1 (ix2 r l) = if l.val < 8 then ((Nat.count (goes (logits a0 a1) l.val) 65536 : Nat) : EReal) else 0 := by
  unfold G1
  refine (broadcastInDim_apply _ _ _ _ (ix1 l) fun a => ?_).trans ?_
  · match a with
    | ⟨0, _⟩ => exact (if_neg (show ¬ (128 : Nat) = 1 by decide)).symm
  · refine (pad1 _ _ _ _ l).trans ?_
    by_cases hl : l.val < 8
    · rw [if_pos hl, dif_pos ⟨Nat.zero_le _, hl⟩]
      refine Eq.trans ?_ (float_ofNat _ (lt_of_le_of_lt (Nat.count_le _) (by decide)))
      show (((counts (expert (top (logits a0 a1)).2) (ix1 (⟨l.val, hl⟩ : Fin 8))).toInt : ℝ) : EReal) = _
      rw [total_apply]
    · rw [if_neg hl, dif_neg (fun h => hl h.2)]
      show (((0#32 : BitVec 32).toInt : ℝ) : EReal) = 0
      simp

end Values

end Cert.Proof.Choice

end
-- ==== Proof.Block.lean ====
/-
  One block of the router's call: what its operations make of 512 rows and of the counts so far, at an index. The two choices of a
  row are the two that a stable sort by descending logits puts first; the ranks are counts of the rows before that made the same choice.
-/
module

public import proofs.«01_k».proof.Proof.Gen.Kernel8Ideal.Skeleton
public import Idealize.ShloMosaic.Lib.Pointwise
public import proofs.«01_k».proof.Proof.Choice

@[expose] public section

set_option maxRecDepth 16384

noncomputable section

namespace Cert.Proof.Block

open Cert.Proof.Ranks Cert.Kernel8Ideal Cert.Kernel8Ideal.Gen Idealize.ShloMosaic
open Cert.Proof.Choice (two bits_bot float_ofNat share)
open scoped BigOperators

/-! ## Words -/

theorem select_bool {α : Type} (c : Bool) (x y : α) : Scalar.select (BitVec.ofBool c) x y = if c = true then x else y := by cases c <;> rfl

theorem select_eq {α : Type} (a b : Nat) (ha : a < 2 ^ 32) (hb : b < 2 ^ 32) (x y : α) :
    Scalar.select (IntOp.cmpi .eq (BitVec.ofNat 32 a) (BitVec.ofNat 32 b)) x y = if a = b then x else y := by
  refine (select_bool _ x y).trans (if_congr ?_ rfl rfl)
  show (BitVec.ofNat 32 a == BitVec.ofNat 32 b) = true ↔ a = b
  rw [beq_iff_eq]
  refine ⟨fun h => ?_, fun h => by rw [h]⟩
  have := congrArg BitVec.toNat h
  rwa [BitVec.toNat_ofNat, BitVec.toNat_ofNat, Nat.mod_eq_of_lt ha, Nat.mod_eq_of_lt hb] at this

theorem select_lt {α : Type} (a b : Nat) (ha : a < 2 ^ 31) (hb : b < 2 ^ 31) (x y : α) :
    Scalar.select (IntOp.cmpi .slt (BitVec.ofNat 32 a) (BitVec.ofNat 32 b)) x y = if a < b then x else y := by
  refine (select_bool _ x y).trans (if_congr ?_ rfl rfl)
  show (BitVec.ofNat 32 a).slt (BitVec.ofNat 32 b) = true ↔ a < b
  rw [BitVec.slt_eq_decide, decide_eq_true_iff, StableHlo.Predicate.toInt_ofNat_small _ ha, StableHlo.Predicate.toInt_ofNat_small _ hb]
  omega

/-- The first lane of a row that holds its greatest number. -/
theorem first_of (f : Fin 128 → EReal) (q : Fin 128) (hlt : ∀ l < q, f l ≠ f q) :
    (Finset.univ : Finset (Fin 128)).fold IntOp.minsi 2147483647#32 (fun k => if f k = f q then BitVec.ofNat 32 k.val else 128#32) = BitVec.ofNat 32 q.val := by
  refine (fold_least _ (fun k : Fin 128 => if f k = f q then k.val else 128) (fun l => ?_) (fun l => ?_) q fun l => ?_).trans ?_
  · split <;> rfl
  · split <;> omega
  · rw [if_pos rfl]
    split
    · next h => exact not_lt.1 fun h' => hlt l h' h
    · omega
  · rw [if_pos rfl]

/-- A row's own number, in the lane of its column. -/
def lanes : IVec S512x128 32 := iota .tc S512x128 32 [1] iota_S512x128_d1_w32

theorem lanes_apply (r : Fin 512) (l : Fin 128) : lanes (ix2 r l) = BitVec.ofNat 32 l.val :=
  congrArg (BitVec.ofNat 32) (show 0 * 128 + l.val = l.val by omega)

/-- One of the eight experts, as a lane. -/
def lane (q : Fin 8) : Fin 128 := ⟨q.val, by omega⟩

section Choose
variable (x : Vec Ideal S512x1024 .bf16) (w : Vec Ideal S1024x128 .bf16) (r : Fin 512) (L : Fin 8 → EReal)
variable (hL : ∀ k : Fin 8, ∑ q : Fin 1024, x (ix2 r q) * w (ix2 q (lane k)) = L k)

/-- A row of logits, with the lanes beyond the experts at minus infinity. -/
def masked (L : Fin 8 → EReal) (l : Fin 128) : EReal := if h : l.val < 8 then L ⟨l.val, h⟩ else ⊥
/-- The same without the first choice. -/
def rest (L : Fin 8 → EReal) (l : Fin 128) : EReal := if l.val = (pick L (two 0)).val then ⊥ else masked L l

theorem masked_lane (k : Fin 8) : masked L (lane k) = L k := dif_pos k.isLt

theorem masked_le (l : Fin 128) : masked L l ≤ L (pick L (two 0)) ∧ (l < lane (pick L (two 0)) → masked L l < L (pick L (two 0))) := by
  unfold masked
  by_cases h : l.val < 8
  · rw [dif_pos h]
    have := pick_spec L (two 0) ⟨l.val, h⟩ fun i hi => (Nat.not_lt_zero _ hi).elim
    exact this
  · rw [dif_neg h]
    exact ⟨bot_le, fun h' => (h (lt_trans h' (pick L (two 0)).isLt)).elim⟩

theorem pick_ne : (pick L (two 1)).val ≠ (pick L (two 0)).val := fun h => absurd (congrArg Fin.val (pick_inj L (Fin.ext h))) (by decide)

theorem rest_lane : rest L (lane (pick L (two 1))) = L (pick L (two 1)) := by
  unfold rest
  exact (if_neg (pick_ne L)).trans (masked_lane L _)

theorem rest_le (hb : L (pick L (two 1)) ≠ ⊥) (l : Fin 128) :
    rest L l ≤ L (pick L (two 1)) ∧ (l < lane (pick L (two 1)) → rest L l < L (pick L (two 1))) := by
  unfold rest
  split
  · exact ⟨bot_le, fun _ => bot_lt_iff_ne_bot.2 hb⟩
  · next hne =>
    unfold masked
    by_cases h : l.val < 8
    · rw [dif_pos h]
      refine pick_spec L (two 1) ⟨l.val, h⟩ fun i hi => ?_
      obtain rfl : i = two 0 := Fin.ext (Nat.lt_one_iff.1 hi)
      exact fun h' => hne (congrArg Fin.val h')
    · rw [dif_neg h]
      exact ⟨bot_le, fun _ => bot_lt_iff_ne_bot.2 hb⟩

include hL in
theorem pay5_apply (l : Fin 128) : k0_pay5 x w (ix2 r l) = masked L l := by
  unfold k0_pay5
  dsimp only
  simp only [pointwise]
  rw [show List.foldl (fun n a => n * (![512, 128] : Fin 2 → Nat) a + (ix2 r l a).val) 0 [1] = l.val from show 0 * 128 + l.val = l.val by omega]
  rw [select_lt _ 8 (by omega) (by decide), bits_bot, zero_add]
  unfold masked
  by_cases h : l.val < 8
  · rw [if_pos h, dif_pos h]
    exact hL ⟨l.val, h⟩
  · rw [if_neg h, dif_neg h]

include hL in
theorem pay6_apply : k0_pay6 x w (ix2 r 0) = L (pick L (two 0)) := by
  unfold k0_pay6
  dsimp only
  simp only [pointwise]
  simp only [pay5_apply x w r L hL]
  exact fold_greatest _ _ _ (lane (pick L (two 0))) (masked_lane L _) (fun l => (masked_le L l).1) (by rw [bits_bot]; exact bot_le)

include hL in
theorem pay7_apply : k0_pay7 x w (ix2 r 0) = BitVec.ofNat 32 (pick L (two 0)).val := by
  unfold k0_pay7
  dsimp only
  simp only [pointwise]
  refine Eq.trans (congrArg (fun f => (Finset.univ : Finset (Fin 128)).fold IntOp.minsi 2147483647#32 f) (funext fun k => ?_))
    (first_of (masked L) (lane (pick L (two 0))) fun l h => by rw [masked_lane]; exact ((masked_le L l).2 h).ne)
  refine if_congr ?_ (lanes_apply r k) rfl
  rw [pay5_apply x w r L hL, masked_lane]
  exact Eq.congr_right (pay6_apply x w r L hL)

include hL in
theorem pay8_apply (l : Fin 128) : k0_pay8 x w (ix2 r l) = rest L l := by
  unfold k0_pay8
  dsimp only
  simp only [pointwise]
  refine (congrArg₂ (fun a b => Scalar.select (IntOp.cmpi .eq a b) (Ideal.ofBits FTy.f32 4286578688#32) (k0_pay5 x w (ix2 r l))) (lanes_apply r l) (pay7_apply x w r L hL)).trans ?_
  refine (select_eq _ _ (by omega) (by omega) _ _).trans ?_
  rw [pay5_apply x w r L hL, bits_bot]
  rfl

include hL in
theorem pay9_apply (hb : L (pick L (two 1)) ≠ ⊥) : k0_pay9 x w (ix2 r 0) = L (pick L (two 1)) := by
  unfold k0_pay9
  dsimp only
  simp only [pointwise]
  simp only [pay8_apply x w r L hL]
  exact fold_greatest _ _ _ (lane (pick L (two 1))) (rest_lane L) (fun l => (rest_le L hb l).1) (by rw [bits_bot]; exact bot_le)

include hL in
theorem pay10_apply (hb : L (pick L (two 1)) ≠ ⊥) : k0_pay10 x w (ix2 r 0) = BitVec.ofNat 32 (pick L (two 1)).val := by
  unfold k0_pay10
  dsimp only
  simp only [pointwise]
  refine Eq.trans (congrArg (fun f => (Finset.univ : Finset (Fin 128)).fold IntOp.minsi 2147483647#32 f) (funext fun k => ?_))
    (first_of (rest L) (lane (pick L (two 1))) fun l h => by rw [rest_lane]; exact ((rest_le L hb l).2 h).ne)
  refine if_congr ?_ (lanes_apply r k) rfl
  rw [pay8_apply x w r L hL, rest_lane]
  exact Eq.congr_right (pay9_apply x w r L hL hb)

include hL in
theorem pay12_apply (hb : L (pick L (two 1)) ≠ ⊥) : k0_pay12 x w (ix2 r 0) = share (L (pick L (two 1)) - L (pick L (two 0))) 0 := by
  unfold k0_pay12 k0_pay11
  dsimp only
  simp only [pointwise]
  rw [pay9_apply x w r L hL hb, pay6_apply x w r L hL]
  rfl

include hL in
theorem pay13_apply (hb : L (pick L (two 1)) ≠ ⊥) :
    k0_pay13 (k0_pay11 x w) (Scalar.ofBits .f32 0x3F800000#32) (ix2 r 0) = share (L (pick L (two 1)) - L (pick L (two 0))) 1 := by
  unfold k0_pay13 k0_pay11
  dsimp only
  simp only [pointwise]
  rw [pay9_apply x w r L hL hb, pay6_apply x w r L hL]
  rfl

end Choose

theorem count_upto (P : Nat → Prop) [DecidablePred P] (a N : Nat) (ha : a ≤ N) : Nat.count (fun k => P k ∧ k < a) N = Nat.count P a := by
  simpa using count_front (fun k => if P k then 1 else 0) 1 a N ha

section Count
variable (i0 i1 : IVec S512x1 32) (b : Vec Ideal S1x128 .f32) (p0 p1 : Fin 512 → Nat) (h0 : ∀ r, p0 r < 128) (h1 : ∀ r, p1 r < 128)
variable (e0 : ∀ r, i0 (ix2 r 0) = BitVec.ofNat 32 (p0 r)) (e1 : ∀ r, i1 (ix2 r 0) = BitVec.ofNat 32 (p1 r))
variable (Q : Nat → Nat → Prop) [∀ l, DecidablePred (Q l)] (hQ : ∀ (r : Fin 512) (l : Fin 128), Q l.val r.val ↔ p0 r = l.val ∨ p1 r = l.val)
include h0 h1 e0 e1 hQ

theorem pay14_apply (r : Fin 512) (l : Fin 128) : k0_pay14 (F := Ideal) lanes i0 i1 (ix2 r l) = if Q l.val r.val then 1 else 0 := by
  have := h0 r
  have := h1 r
  unfold k0_pay14
  simp only [pointwise]
  refine (congrArg₂ (fun a b => Scalar.select (IntOp.cmpi .eq a b) _ _) (lanes_apply r l) (e0 r)).trans ?_
  rw [select_eq _ _ (by omega) (by omega)]
  refine (congrArg (fun y : EReal => if l.val = p0 r then (1 : EReal) else y) ((congrArg₂ (fun a b => Scalar.select (IntOp.cmpi .eq a b) _ _) (lanes_apply r l) (e1 r)).trans (select_eq _ _ (by omega) (by omega) _ _))).trans ?_
  have := hQ r l
  by_cases c0 : l.val = p0 r
  · rw [if_pos c0, if_pos (this.2 (Or.inl c0.symm))]
  · rw [if_neg c0]
    by_cases c1 : l.val = p1 r
    · rw [if_pos c1, if_pos (this.2 (Or.inr c1.symm))]
    · rw [if_neg c1, if_neg fun h => (this.1 h).elim (fun h => c0 h.symm) fun h => c1 h.symm]

theorem pay15_apply (r : Fin 512) (l : Fin 128) :
    k0_pay15 lanes i0 i1 b (ix2 r l) = ((Nat.count (Q l.val) r.val : Nat) : EReal) + b (ix2 0 l) := by
  unfold k0_pay15
  dsimp only
  simp only [pointwise]
  refine congrArg₂ (· + ·) ?_ rfl
  rw [zero_add, ← count_upto (Q l.val) r.val 512 r.isLt.le, ← sum_ones]
  refine Finset.sum_congr rfl fun k _ => ?_
  refine (congrArg₂ (fun a b' => Scalar.select (IntOp.cmpi .slt a b') (1 * k0_pay14 (F := Ideal) lanes i0 i1 (ix2 k l)) 0)
    (congrArg (BitVec.ofNat 32) (show 0 * 512 + k.val = k.val by omega)) (congrArg (BitVec.ofNat 32) (show 0 * 512 + r.val = r.val by omega))).trans ?_
  rw [select_lt _ _ (by omega) (by omega), pay14_apply i0 i1 p0 p1 h0 h1 e0 e1 Q hQ, one_mul]
  by_cases hk : k.val < r.val <;> by_cases hq : Q l.val k.val <;> simp [hk, hq]

theorem pay18_apply (l : Fin 128) : k0_pay18 lanes i0 i1 b (ix2 0 l) = b (ix2 0 l) + ((Nat.count (Q l.val) 512 : Nat) : EReal) := by
  unfold k0_pay18
  dsimp only
  simp only [pointwise]
  simp only [pay14_apply i0 i1 p0 p1 h0 h1 e0 e1 Q hQ]
  rw [sum_ones (Q l.val)]

theorem pay16_apply (r : Fin 512) : k0_pay16 lanes i0 i1 b (ix2 r 0) = ((Nat.count (Q (p0 r)) r.val : Nat) : EReal) + b (ix2 0 ⟨p0 r, h0 r⟩) := by
  have := h0 r
  unfold k0_pay16
  dsimp only
  simp only [pointwise]
  refine Eq.trans (Finset.sum_congr rfl fun k _ => (congrArg₂ (fun a b' => Scalar.select (IntOp.cmpi .eq a b') (k0_pay15 lanes i0 i1 b (ix2 r k)) 0) (lanes_apply r k) (e0 r)).trans
    ((select_eq _ _ (by omega) (by omega) _ _).trans (if_congr (show k.val = p0 r ↔ k = ⟨p0 r, h0 r⟩ from ⟨fun h => Fin.ext h, fun h => congrArg Fin.val h⟩) rfl rfl))) ?_
  rw [Finset.sum_ite_eq' Finset.univ (⟨p0 r, h0 r⟩ : Fin 128), if_pos (Finset.mem_univ _)]
  exact pay15_apply i0 i1 b p0 p1 h0 h1 e0 e1 Q hQ r _

theorem pay17_apply (r : Fin 512) : k0_pay17 lanes i0 i1 b (ix2 r 0) = ((Nat.count (Q (p1 r)) r.val : Nat) : EReal) + b (ix2 0 ⟨p1 r, h1 r⟩) := by
  have := h1 r
  unfold k0_pay17
  dsimp only
  simp only [pointwise]
  refine Eq.trans (Finset.sum_congr rfl fun k _ => (congrArg₂ (fun a b' => Scalar.select (IntOp.cmpi .eq a b') (k0_pay15 lanes i0 i1 b (ix2 r k)) 0) (lanes_apply r k) (e1 r)).trans
    ((select_eq _ _ (by omega) (by omega) _ _).trans (if_congr (show k.val = p1 r ↔ k = ⟨p1 r, h1 r⟩ from ⟨fun h => Fin.ext h, fun h => congrArg Fin.val h⟩) rfl rfl))) ?_
  rw [Finset.sum_ite_eq' Finset.univ (⟨p1 r, h1 r⟩ : Fin 128), if_pos (Finset.mem_univ _)]
  exact pay15_apply i0 i1 b p0 p1 h0 h1 e0 e1 Q hQ r _

end Count

/-- The table's six lanes. -/
theorem pay3_apply (i0 i1 : IVec S512x1 32) (g0 g1 r0 r1 : FVec Ideal S512x1 .f32) (r : Fin 512) (l : Fin 128) :
    k0_pay3 lanes i0 i1 g0 g1 r0 r1 (ix2 r l) = if l.val = 5 then r1 (ix2 r 0) else if l.val = 4 then r0 (ix2 r 0) else if l.val = 3 then g1 (ix2 r 0) else if l.val = 2 then g0 (ix2 r 0)
      else if l.val = 1 then (((i1 (ix2 r 0)).toInt : ℝ) : EReal) else if l.val = 0 then (((i0 (ix2 r 0)).toInt : ℝ) : EReal) else 0 := by
  unfold k0_pay3
  simp only [pointwise]
  simp only [lanes_apply]
  rw [select_eq _ 5 (by omega) (by decide), select_eq _ 4 (by omega) (by decide), select_eq _ 3 (by omega) (by decide), select_eq _ 2 (by omega) (by decide),
    select_eq _ 1 (by omega) (by decide), select_eq _ 0 (by omega) (by decide)]
  rfl

end Cert.Proof.Block

end
-- ==== Proof.RouterRun.lean ====
/-
  What one point of the router's call leaves: the block of its tokens' choices, the counts, and the counts carried to the next point, over
  the blocks that it reads.
-/
module

public import proofs.«01_k».proof.Proof.Gen.Kernel8Ideal.Value
public import proofs.«01_k».proof.Proof.Block
public import proofs.«01_k».proof.Proof.Routed
public import Idealize.ShloMosaic.Lib.Pipeline.ValueKit.Tiles

@[expose] public section

set_option maxRecDepth 16384

noncomputable section

namespace Cert.Proof.Router

open Cert.Proof.Routed (hz)
open Cert.Proof.Block (lanes)
open Cert.Kernel8Ideal Cert.Kernel8Ideal.Gen Cert.Kernel8Ideal.Value Idealize.ShloMosaic Idealize.ShloMosaic.TcCoe Idealize.SL.Sem

section Run
variable {F : FTy → Type} [FloatOps F]

/-- The counts that a point reads: the first row of what is carried. -/
def first (s : Vec F S8x128 .f32) : Vec F S1x128 .f32 := View.ld s (Rect.unit (s := S8x128) ![0, 0] S1x128.size inb_S8x128_S1x128_0_0)
theorem first_apply (s : Vec F S8x128 .f32) (l : Fin 128) : first s (ix2 0 l) = s (ix2 0 l) := by
  refine View.ld_unit_apply_of s _ _ _ _ (ix2 0 l) fun a => ?_
  match a with
  | ⟨0, _⟩ => rfl
  | ⟨1, _⟩ => exact (Nat.zero_add _).symm

/-- The three things that a point leaves. -/
def infoOf (x : Vec F S512x1024 .bf16) (w : Vec F S1024x128 .bf16) (b : Vec F S1x128 .f32) : Vec F S512x128 .f32 :=
  k0_pay3 lanes (k0_pay7 x w) (k0_pay10 x w) (k0_pay12 x w) (k0_pay13 (k0_pay11 x w) (Scalar.ofBits .f32 0x3F800000#32))
    (k0_pay16 lanes (k0_pay7 x w) (k0_pay10 x w) b) (k0_pay17 lanes (k0_pay7 x w) (k0_pay10 x w) b)
def cntOf (x : Vec F S512x1024 .bf16) (w : Vec F S1024x128 .bf16) (b : Vec F S1x128 .f32) : Vec F S8x128 .f32 :=
  k0_pay2 (k0_pay18 lanes (k0_pay7 x w) (k0_pay10 x w) b)
def nextOf (x : Vec F S512x1024 .bf16) (w : Vec F S1024x128 .bf16) (b : Vec F S1x128 .f32) : Vec F S8x128 .f32 :=
  k0_pay1 (k0_pay19 lanes (k0_pay7 x w) (k0_pay10 x w) b)

section Point
variable (c : Dev nD) (i : grid0.Coords) (arg1 : Memref sig .tc .vmem S512x1024 .bf16) (harg1 : arg1.IsWhole) (arg2 : Memref sig .tc .vmem S1024x128 .bf16) (harg2 : arg2.IsWhole) (arg3 : Memref sig .tc .vmem S512x128 .f32) (harg3 : arg3.IsWhole) (arg4 : Memref sig .tc .vmem S8x128 .f32) (harg4 : arg4.IsWhole) (arg5 : Memref sig .tc .vmem S8x128 .f32) (harg5 : arg5.IsWhole)
    (x0 : Vec F S512x1024 .bf16) (x1 : Vec F S1024x128 .bf16) (xs0 : Vec F S8x128 .f32)

theorem sout_B (hc0 : ¬cond0_0 i) : sout0_B_0 c i arg1 harg1 arg2 harg2 arg3 harg3 arg4 harg4 arg5 harg5 hc0 x0 x1 xs0 = nextOf x0 x1 (first xs0) := by
  unfold sout0_B_0
  rw [View.read_writes_junk_eq_canon]
  unfold kernelRun0_B
  dsimp only
  rw [View.canon_unit_zero hz]
  unfold kernelRun0_B.sl.r_8 kernelRun0_B.sl.r kernelRun0_B.sl.r_1
  rw [View.readAt_eq_ld, View.readAt_eq_ld, View.readAt_eq_ld, harg1.read_unread, harg2.read_unread, harg5.read_unread, View.ld_unit_zero hz, View.ld_unit_zero hz]
  rfl
theorem out_B_3 (hc0 : ¬cond0_0 i) : out0_B_3 c i arg1 harg1 arg2 harg2 arg3 harg3 arg4 harg4 arg5 harg5 hc0 x0 x1 xs0 = cntOf x0 x1 (first xs0) := by
  unfold out0_B_3
  rw [View.read_writes_junk_eq_canon]
  unfold kernelRun0_B
  dsimp only
  rw [View.canon_unit_zero hz]
  unfold kernelRun0_B.sl.r_7 kernelRun0_B.sl.r kernelRun0_B.sl.r_1
  rw [View.readAt_eq_ld, View.readAt_eq_ld, View.readAt_eq_ld, harg1.read_unread, harg2.read_unread, harg5.read_unread, View.ld_unit_zero hz, View.ld_unit_zero hz]
  rfl
theorem out_B_2 (hc0 : ¬cond0_0 i) : out0_B_2 c i arg1 harg1 arg2 harg2 arg3 harg3 arg4 harg4 arg5 harg5 hc0 x0 x1 xs0 = infoOf x0 x1 (first xs0) := by
  unfold out0_B_2
  rw [View.read_writes_junk_eq_canon]
  unfold kernelRun0_B
  dsimp only
  rw [View.canon_unit_zero hz]
  unfold kernelRun0_B.sl.r_6 kernelRun0_B.sl.r_5 kernelRun0_B.sl.r_4 kernelRun0_B.sl.r_3 kernelRun0_B.sl.r_2 kernelRun0_B.sl.r kernelRun0_B.sl.r_1
  rw [View.readAt_eq_ld, View.readAt_eq_ld, View.readAt_eq_ld, harg1.read_unread, harg2.read_unread, harg5.read_unread, View.ld_unit_zero hz, View.ld_unit_zero hz]
  rfl

/-- The first point starts from zeros. -/
theorem first_zero (L : List (View.Piece (Elt F) S8x128 .f32)) (v : View sig .tc .vmem S8x128 .f32) :
    v.readCov (⟨Rect.unit (s := S8x128) ![0, 0] S8x128.size inb_S8x128_S8x128_0_0, k0_pay4⟩ :: L) (Rect.unit (s := S8x128) ![0, 0] S1x128.size inb_S8x128_S1x128_0_0).toLoadRect = first (k0_pay4 (F := F)) := by
  rw [View.readCov_eq_canon']
  rw [View.canon_cons_unit_zero hz]
  rfl
theorem sout_A (hc0 : cond0_0 i) : sout0_A_0 c i arg1 harg1 arg2 harg2 arg3 harg3 arg4 harg4 arg5 harg5 hc0 x0 x1 = nextOf x0 x1 (first k0_pay4) := by
  unfold sout0_A_0
  rw [View.read_writes_junk_eq_canon]
  unfold kernelRun0_A
  dsimp only
  rw [View.canon_cons_unit_zero hz]
  unfold kernelRun0_A.sl.r_8 kernelRun0_A.sl.r kernelRun0_A.sl.r_1 kernelRun0_A.sl.v60 kernelRun0_A.sl.HS0_1
  rw [View.readAt_eq_ld, View.readAt_eq_ld, first_zero, harg1.read_unread, harg2.read_unread, View.ld_unit_zero hz, View.ld_unit_zero hz]
  rfl
theorem out_A_3 (hc0 : cond0_0 i) : out0_A_3 c i arg1 harg1 arg2 harg2 arg3 harg3 arg4 harg4 arg5 harg5 hc0 x0 x1 = cntOf x0 x1 (first k0_pay4) := by
  unfold out0_A_3
  rw [View.read_writes_junk_eq_canon]
  unfold kernelRun0_A
  dsimp only
  rw [View.canon_unit_zero hz]
  unfold kernelRun0_A.sl.r_7 kernelRun0_A.sl.r kernelRun0_A.sl.r_1 kernelRun0_A.sl.v60 kernelRun0_A.sl.HS0_1
  rw [View.readAt_eq_ld, View.readAt_eq_ld, first_zero, harg1.read_unread, harg2.read_unread, View.ld_unit_zero hz, View.ld_unit_zero hz]
  rfl
theorem out_A_2 (hc0 : cond0_0 i) : out0_A_2 c i arg1 harg1 arg2 harg2 arg3 harg3 arg4 harg4 arg5 harg5 hc0 x0 x1 = infoOf x0 x1 (first k0_pay4) := by
  unfold out0_A_2
  rw [View.read_writes_junk_eq_canon]
  unfold kernelRun0_A
  dsimp only
  rw [View.canon_unit_zero hz]
  unfold kernelRun0_A.sl.r_6 kernelRun0_A.sl.r_5 kernelRun0_A.sl.r_4 kernelRun0_A.sl.r_3 kernelRun0_A.sl.r_2 kernelRun0_A.sl.r kernelRun0_A.sl.r_1 kernelRun0_A.sl.v60 kernelRun0_A.sl.HS0_1
  rw [View.readAt_eq_ld, View.readAt_eq_ld, first_zero, harg1.read_unread, harg2.read_unread, View.ld_unit_zero hz, View.ld_unit_zero hz]
  rfl
end Point

variable (m : (ℓ : Loc nD τ sig) → Buf (Elt F) ℓ)

theorem V0 (c : Dev nD) : V m c main_v3 = truncf .bf16 (shapeCast S65536x1024 (m ((c : Thread nD τ).loc main_arg0)) shapeCasts_S16x4096x1024_S65536x1024) bitsLt_bf16_f32 := by
  unfold V hostOps0_2 hostOps0_1 hostOps0
  after_results <;> rfl
theorem V1 (c : Dev nD) : V m c main_v1 = truncf .bf16 (pad S1024x128 ![0, 0] ![0, 120] ![0, 0] (m ((c : Thread nD τ).loc main_arg1)) (sitofp .f32 (constantI S_ 32 0#32)) pads_S1024x8_S1024x128_000_01200 h_S_) bitsLt_bf16_f32 := by
  unfold V hostOps0_2 hostOps0_1 hostOps0
  after_results <;> rfl

/-- The rows of point `t`, and where its blocks lie. -/
def tok (t : Fin cfg0.N) (r : Fin 512) : Fin 65536 := ⟨512 * t.val + r.val, by have := t.isLt; have hN : cfg0.N = 128 := rfl; omega⟩
theorem emb0 (t : Fin cfg0.N) (j : S512x1024.Idx) : ((cfg0.win 0).blk t).view.emb j = ix2 (tok t (j 0)) (j 1) := by
  obtain ⟨e0, e1⟩ := (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega
theorem iblk0 (c : Dev nD) (t : Fin cfg0.N) : iblk m c 0 t = fun j : S512x1024.Idx => V m c main_v3 (ix2 (tok t (j 0)) (j 1)) := by
  funext j; show V m c main_v3 (((cfg0.win 0).blk t).view.emb j) = _; rw [emb0]; rfl
theorem emb1 (t : Fin cfg0.N) (j : S1024x128.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 1024 + 1 * (j 0).val = (j 0).val; omega
  | ⟨1, _⟩ => show win0_1.index t (1 : Fin 2) * 128 + 1 * (j 1).val = (j 1).val; omega
theorem iblk1 (c : Dev nD) (t : Fin cfg0.N) : iblk m c 1 t = V m c main_v1 := by
  funext j; show V m c main_v1 (((cfg0.win 1).blk t).view.emb j) = _; rw [emb1]

end Run

end Cert.Proof.Router

end
-- ==== Proof.Router.lean ====
/-
  The router: the choices, gates and places that the kernel leaves are those of the reference, element by element, over the extended reals,
  where every entry of the rows and of the router's matrix is finite.
-/
module

public import proofs.«01_k».proof.Defs
public import proofs.«01_k».proof.Proof.RouterRun
public import proofs.«01_k».proof.Proof.Gen.Pre_finite
public import Idealize.ShloMosaic.Lib.Pointwise
public import Idealize.ShloMosaic.Lib.KernelVsHost
public import Idealize.ShloMosaic.Lib.ReduceAll
public import Idealize.ShloMosaic.Lib.StableHlo.Predicate

@[expose] public section

set_option maxRecDepth 16384

noncomputable section

namespace Cert.Proof.Router

open Cert.Proof.Ranks Cert.Proof.Block
open Cert.Proof.Choice (logits row two num num_lt num_eq goes share lead info float_ofNat)
open Cert.Kernel8Ideal Cert.Kernel8Ideal.Gen Cert.Kernel8Ideal.Value Idealize.ShloMosaic Idealize.ShloMosaic.TcCoe Idealize.SL.Sem
open scoped BigOperators

/-! ## The precondition -/

theorem andi_one : ∀ a b : BitVec 1, IntOp.andi a b = 1#1 → a = 1#1 ∧ b = 1#1 := by decide

/-- A number that is a real. -/
def Real (x : EReal) : Prop := ∃ r : ℝ, x = (r : EReal)

theorem real_of_abs (x : EReal) (h : Ideal.cmp .olt (max x (-x)) ⊤ = 1#1) : Real x := by
  have hl : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h1, h2⟩ := max_lt_iff.1 hl
  induction x with
  | bot => exact absurd h2 (by simp)
  | top => exact absurd h1 (by simp)
  | coe r => exact ⟨r, rfl⟩

theorem bits_top : Ideal.ofBits FTy.f32 0x7F800000#32 = ⊤ := by
  simp [Ideal.ofBits, Ideal.ieee]

/-- What the precondition says of the arguments. -/
theorem reals (a0 : FVec Ideal S16x4096x1024 .f32) (a1 : FVec Ideal S1024x8 .f32) (h : Cert.Pre_finite.fn (F := Ideal) a0 a1 = fun _ => 1#1) :
    (∀ i, Real (a0 i)) ∧ ∀ i, Real (a1 i) := by
  have e := congrFun h (fun a => a.elim0)
  obtain ⟨e0, e1⟩ := andi_one _ _ e
  haveI : Subsingleton Cert.Pre_finite.S_.Idx := ⟨fun _ _ => funext fun a => a.elim0⟩
  refine ⟨fun i => real_of_abs _ ?_, fun i => real_of_abs _ ?_⟩
  · have := Host.reduce_andi_all _ _ _ _ _ e0 i
    rw [← bits_top]; exact this
  · have := Host.reduce_andi_all _ _ _ _ _ e1 i
    rw [← bits_top]; exact this

/-! ## The logits -/

section Values
variable (a0 : FVec Ideal S16x4096x1024 .f32) (a1 : FVec Ideal S1024x8 .f32)

/-- The rows and the matrix as the kernel reads them. -/
def rows (t : Fin cfg0.N) : Vec Ideal S512x1024 .bf16 := fun j =>
  (truncf .bf16 (shapeCast S65536x1024 a0 shapeCasts_S16x4096x1024_S65536x1024) bitsLt_bf16_f32 : FVec Ideal S65536x1024 .bf16) (ix2 (tok t (j 0)) (j 1))
def mat : Vec Ideal S1024x128 .bf16 :=
  truncf .bf16 (pad S1024x128 ![0, 0] ![0, 120] ![0, 0] a1 (sitofp .f32 (constantI S_ 32 0#32)) pads_S1024x8_S1024x128_000_01200 h_S_) bitsLt_bf16_f32

theorem mat_apply (q : Fin 1024) (k : Fin 8) : mat a1 (ix2 q (lane k)) = a1 (ix2 q k) := by
  unfold mat
  refine (show _ = pad S1024x128 ![0, 0] ![0, 120] ![0, 0] a1 (sitofp .f32 (constantI S_ 32 0#32)) pads_S1024x8_S1024x128_000_01200 h_S_ (ix2 q (lane k)) from rfl).trans ?_
  refine pad_apply_of_inside _ _ _ _ _ _ _ _ (ix2 q k) fun a => ?_
  match a with
  | ⟨0, _⟩ => show q.val = 0 + q.val * (0 + 1); omega
  | ⟨1, _⟩ => show k.val = 0 + k.val * (0 + 1); omega

theorem logit_apply (t : Fin 65536) (k : Fin 8) :
    row (logits a0 a1) t k = ∑ q : Fin 1024, (shapeCast S65536x1024 a0 shapeCasts_S16x4096x1024_S65536x1024 : FVec Ideal S65536x1024 .f32) (ix2 t q) * a1 (ix2 q k) := by
  unfold row logits
  pointwise

theorem logit_eq (t : Fin cfg0.N) (r : Fin 512) (k : Fin 8) :
    ∑ q : Fin 1024, rows a0 t (ix2 r q) * mat a1 (ix2 q (lane k)) = row (logits a0 a1) (tok t r) k := by
  rw [logit_apply]
  refine Finset.sum_congr rfl fun q _ => ?_
  rw [mat_apply]
  rfl

theorem logit_real (h0 : ∀ i, Real (a0 i)) (h1 : ∀ i, Real (a1 i)) (t : Fin 65536) (k : Fin 8) : Real (row (logits a0 a1) t k) := by
  rw [logit_apply]
  refine Finset.sum_induction _ Real (fun x y ⟨u, hu⟩ ⟨v, hv⟩ => ⟨u + v, by rw [hu, hv, EReal.coe_add]⟩) ⟨0, rfl⟩ fun q _ => ?_
  obtain ⟨u, hu⟩ : Real ((shapeCast S65536x1024 a0 shapeCasts_S16x4096x1024_S65536x1024 : FVec Ideal S65536x1024 .f32) (ix2 t q)) := h0 _
  obtain ⟨v, hv⟩ := h1 (ix2 q k)
  exact ⟨u * v, by rw [hu, hv, EReal.coe_mul]⟩

end Values

/-! ## A point -/

section Point
variable (a0 : FVec Ideal S16x4096x1024 .f32) (a1 : FVec Ideal S1024x8 .f32) (hr : ∀ t k, Real (row (logits a0 a1) t k)) (t : Fin cfg0.N)
variable (b : Vec Ideal S1x128 .f32) (hb : ∀ l : Fin 128, b (ix2 0 l) = ((Nat.count (goes (logits a0 a1) l.val) (512 * t.val) : Nat) : EReal))

theorem lead_ne_bot (hr : ∀ t k, Real (row (logits a0 a1) t k)) (u : Fin 65536) (s : Fin 2) : lead (logits a0 a1) u s ≠ ⊥ := by
  obtain ⟨x, hx⟩ := hr u (pick (row (logits a0 a1) u) (two s))
  unfold lead; rw [hx]; exact EReal.coe_ne_bot x
theorem lead_ne_top (hr : ∀ t k, Real (row (logits a0 a1) t k)) (u : Fin 65536) (s : Fin 2) : lead (logits a0 a1) u s ≠ ⊤ := by
  obtain ⟨x, hx⟩ := hr u (pick (row (logits a0 a1) u) (two s))
  unfold lead; rw [hx]; exact EReal.coe_ne_top x

/-- The two choices of a row of the block. -/
def p0 (r : Fin 512) : Nat := num (logits a0 a1) (2 * (tok t r).val)
def p1 (r : Fin 512) : Nat := num (logits a0 a1) (2 * (tok t r).val + 1)
theorem p0_lt (r : Fin 512) : p0 a0 a1 t r < 128 := lt_trans (num_lt _ _) (by decide)
theorem p1_lt (r : Fin 512) : p1 a0 a1 t r < 128 := lt_trans (num_lt _ _) (by decide)

theorem first_choice (r : Fin 512) : k0_pay7 (rows a0 t) (mat a1) (ix2 r 0) = BitVec.ofNat 32 (p0 a0 a1 t r) := by
  refine (pay7_apply _ _ r _ (logit_eq a0 a1 t r)).trans ?_
  rw [← num_eq]; rfl
theorem second_choice (hr : ∀ t k, Real (row (logits a0 a1) t k)) (r : Fin 512) : k0_pay10 (rows a0 t) (mat a1) (ix2 r 0) = BitVec.ofNat 32 (p1 a0 a1 t r) := by
  refine (pay10_apply _ _ r _ (logit_eq a0 a1 t r) (lead_ne_bot a0 a1 hr (tok t r) 1)).trans ?_
  rw [← num_eq]; rfl

/-- Row `k` of the block goes to expert `l`. -/
abbrev Q (l k : Nat) : Prop := goes (logits a0 a1) l (512 * t.val + k)
theorem Q_iff (r : Fin 512) (l : Fin 128) : Q a0 a1 t l.val r.val ↔ p0 a0 a1 t r = l.val ∨ p1 a0 a1 t r = l.val := Iff.rfl

theorem count_at (l k : Nat) : ((Nat.count (Q a0 a1 t l) k : Nat) : EReal) + ((Nat.count (goes (logits a0 a1) l) (512 * t.val) : Nat) : EReal)
    = ((Nat.count (goes (logits a0 a1) l) (512 * t.val + k) : Nat) : EReal) := by
  rw [Nat.count_add, Nat.cast_add, add_comm]

include hr hb

theorem total_at (l : Fin 128) : k0_pay18 lanes (k0_pay7 (rows a0 t) (mat a1)) (k0_pay10 (rows a0 t) (mat a1)) b (ix2 0 l)
    = ((Nat.count (goes (logits a0 a1) l.val) (512 * (t.val + 1)) : Nat) : EReal) := by
  rw [pay18_apply _ _ b (p0 a0 a1 t) (p1 a0 a1 t) (p0_lt a0 a1 t) (p1_lt a0 a1 t) (first_choice a0 a1 t) (second_choice a0 a1 t hr) (Q a0 a1 t) (Q_iff a0 a1 t) l,
    hb, add_comm, count_at]
  rfl

theorem cnt_at (r : Fin 8) (l : Fin 128) : cntOf (rows a0 t) (mat a1) b (ix2 r l) = ((Nat.count (goes (logits a0 a1) l.val) (512 * (t.val + 1)) : Nat) : EReal) := by
  refine Eq.trans ?_ (total_at a0 a1 hr t b hb l)
  unfold cntOf k0_pay2
  pointwise
theorem next_at (r : Fin 8) (l : Fin 128) : nextOf (rows a0 t) (mat a1) b (ix2 r l) = ((Nat.count (goes (logits a0 a1) l.val) (512 * (t.val + 1)) : Nat) : EReal) := by
  refine Eq.trans ?_ (total_at a0 a1 hr t b hb l)
  unfold nextOf k0_pay1 k0_pay19
  pointwise

theorem info_at (r : Fin 512) (l : Fin 128) : infoOf (rows a0 t) (mat a1) b (ix2 r l) = info (logits a0 a1) (tok t r) l.val := by
  have hp0 : p0 a0 a1 t r < 2 ^ 31 := lt_trans (p0_lt a0 a1 t r) (by decide)
  have hp1 : p1 a0 a1 t r < 2 ^ 31 := lt_trans (p1_lt a0 a1 t r) (by decide)
  unfold infoOf
  rw [pay3_apply, first_choice, second_choice a0 a1 t hr, float_ofNat _ hp0, float_ofNat _ hp1,
    pay12_apply _ _ r _ (logit_eq a0 a1 t r) (lead_ne_bot a0 a1 hr (tok t r) 1), pay13_apply _ _ r _ (logit_eq a0 a1 t r) (lead_ne_bot a0 a1 hr (tok t r) 1),
    pay16_apply _ _ b (p0 a0 a1 t) (p1 a0 a1 t) (p0_lt a0 a1 t) (p1_lt a0 a1 t) (first_choice a0 a1 t) (second_choice a0 a1 t hr) (Q a0 a1 t) (Q_iff a0 a1 t) r,
    pay17_apply _ _ b (p0 a0 a1 t) (p1 a0 a1 t) (p0_lt a0 a1 t) (p1_lt a0 a1 t) (first_choice a0 a1 t) (second_choice a0 a1 t hr) (Q a0 a1 t) (Q_iff a0 a1 t) r,
    hb, hb, count_at, count_at]
  obtain ⟨n, hn⟩ := l
  match n with
  | 0 => rfl
  | 1 => rfl
  | 2 => rfl
  | 3 => rfl
  | 4 => rfl
  | 5 => rfl
  | n + 6 =>
    unfold info
    simp only [show ¬ n + 6 < 2 by omega, show ¬ n + 6 < 4 by omega, show ¬ n + 6 < 6 by omega, show ¬ n + 6 = 5 by omega, show ¬ n + 6 = 4 by omega,
      show ¬ n + 6 = 3 by omega, show ¬ n + 6 = 2 by omega, show ¬ n + 6 = 1 by omega, show ¬ n + 6 = 0 by omega, if_false]

end Point

/-! ## The grid -/

theorem emb2 (t : Fin cfg0.N) (j : S512x128.Idx) : ((cfg0.win 2).blk t).view.emb j = ix2 (tok t (j 0)) (j 1) := by
  obtain ⟨e0, e1⟩ := (by decide +kernel : ∀ t : Fin grid0.N, win0_2.index t (0 : Fin 2) = t.val ∧ win0_2.index t (1 : Fin 2) = 0) t
  funext a; apply Fin.ext
  match a with
  | ⟨0, _⟩ => show win0_2.index t (0 : Fin 2) * 512 + 1 * (j 0).val = 512 * t.val + (j 0).val; omega
  | ⟨1, _⟩ => show win0_2.index t (1 : Fin 2) * 128 + 1 * (j 1).val = (j 1).val; omega
theorem covered2 (i : S65536x128.Idx) : ∃ t : Fin cfg0.N, (cfg0.win 2).flush t = true ∧ i ∈ ((cfg0.win 2).blk t).view.set := by
  obtain ⟨r, hr⟩ : ∃ r : Fin 65536, r = i 0 := ⟨_, rfl⟩
  have hN : cfg0.N = 128 := rfl
  obtain ⟨t, ht⟩ : ∃ t : Fin cfg0.N, t.val = r.val / 512 := ⟨⟨r.val / 512, by omega⟩, rfl⟩
  refine ⟨t, flush0_2 _, ?_⟩
  have h := ((cfg0.win 2).blk t).view.emb_mem_set (ix2 (⟨r.val % 512, Nat.mod_lt _ (by decide)⟩ : Fin 512) (i 1))
  rw [emb2] at h
  refine Eq.mpr (congrArg (· ∈ ((cfg0.win 2).blk t).view.set) (funext fun a => Fin.ext ?_)) h
  match a with
  | ⟨0, _⟩ => show (i 0).val = 512 * t.val + r.val % 512; rw [← hr]; omega
  | ⟨1, _⟩ => rfl

section Grid
variable (m : (ℓ : Loc nD τ sig) → Buf (Elt Ideal) ℓ) (c : Dev nD)

/-- The arguments. -/
abbrev in0 : FVec Ideal S16x4096x1024 .f32 := m ((c : Thread nD τ).loc main_arg0)
abbrev in1 : FVec Ideal S1024x8 .f32 := m ((c : Thread nD τ).loc main_arg1)

theorem in_rows (t : Fin cfg0.N) : iblk m c 0 t = rows (in0 m c) t := by rw [iblk0, V0]; rfl
theorem in_mat (t : Fin cfg0.N) : iblk m c 1 t = mat (in1 m c) := by rw [iblk1, V1]; rfl

/-- What is carried into a point: zeros, or what the point before left. -/
def carried (t : Fin cfg0.N) : Vec Ideal S8x128 .f32 :=
  if t.val % 128 = 0 then (k0_pay4 (F := Ideal) : FVec Ideal S8x128 .f32) else (outsAt0 m c (t.val - 1) (Nat.lt_of_le_of_lt (Nat.sub_le _ _) t.isLt)).2.2

theorem outs_eq (t : Fin cfg0.N) : outsAt0 m c t.val t.isLt
    = (infoOf (rows (in0 m c) t) (mat (in1 m c)) (first (carried m c t)), cntOf (rows (in0 m c) t) (mat (in1 m c)) (first (carried m c t)),
      nextOf (rows (in0 m c) t) (mat (in1 m c)) (first (carried m c t))) := by
  unfold carried
  by_cases h0 : t.val % 128 = 0
  · rw [outsAt0_A m c t h0, out_A_2, out_A_3, sout_A, in_rows, in_mat, if_pos h0]
  · rw [outsAt0_B m c t h0, out_B_2, out_B_3, sout_B, in_rows, in_mat, if_neg h0]

variable (hr : ∀ t k, Real (row (logits (in0 m c) (in1 m c)) t k))
include hr

/-- The counts that a point reads are those of the tokens before its own. -/
theorem counts_at : ∀ (n : Nat) (hn : n < cfg0.N) (l : Fin 128),
    first (carried m c ⟨n, hn⟩) (ix2 0 l) = ((Nat.count (goes (logits (in0 m c) (in1 m c)) l.val) (512 * n) : Nat) : EReal)
  | 0, hn, l => by
    rw [first_apply]
    unfold carried
    rw [if_pos (Nat.zero_mod _)]
    unfold k0_pay4
    pointwise
    rw [Nat.count_zero, Nat.cast_zero]
  | n + 1, hn, l => by
    have hN : cfg0.N = 128 := rfl
    have hn' : n < cfg0.N := by omega
    rw [first_apply]
    unfold carried
    rw [if_neg (show ¬ (n + 1) % 128 = 0 by omega)]
    refine (congrFun (congrArg (fun p => p.2.2) (outs_eq m c ⟨n, hn'⟩)) (ix2 0 l)).trans ?_
    exact next_at (in0 m c) (in1 m c) hr ⟨n, hn'⟩ _ (fun l => counts_at n hn' l) 0 l

/-- The reference's results, as its run states them. -/
abbrev G0 := Cert.Proof.Choice.G0
abbrev G1 := Cert.Proof.Choice.G1

/-- What a point writes back is its block of the reference's first result. -/
theorem flushed2_eq (t : Fin cfg0.N) : (dats m 0 c).flushed 2 t = ((cfg0.win 2).blk t).view.read (Elt Ideal) (G0 (in0 m c) (in1 m c)) := by
  rw [flushed2, outs_eq]
  funext j
  show _ = G0 _ _ (((cfg0.win 2).blk t).view.emb j)
  rw [emb2]
  refine Eq.trans ?_ (Cert.Proof.Choice.G0_apply _ _ (tok t (j 0)) (lead_ne_bot _ _ hr _ 0) (lead_ne_top _ _ hr _ 0) (j 1)).symm
  refine Eq.trans ?_ (info_at _ _ hr t _ (counts_at m c hr t.val t.isLt) (j 0) (j 1))
  rfl

/-- The counts at the end are the reference's second result. -/
theorem counts_eq : G3 m c = G1 (in0 m c) (in1 m c) := by
  rw [G3_last, ← outsAt0_sweep]
  funext j
  have hj : j = ix2 (j 0) (j 1) := by
    funext a
    match a with
    | ⟨0, _⟩ => rfl
    | ⟨1, _⟩ => rfl
  obtain ⟨r, l, rfl⟩ : ∃ (r : Fin 8) (l : Fin 128), j = ix2 r l := ⟨_, _, hj⟩
  refine Eq.trans ?_ (Cert.Proof.Choice.G1_apply _ _ r l).symm
  refine (congrFun (congrArg (fun p => p.2.1) (outs_eq m c ⟨127, by decide⟩)) (ix2 r l)).trans ?_
  refine (cnt_at _ _ hr ⟨127, by decide⟩ _ (counts_at m c hr 127 (by decide)) r l).trans ?_
  show ((Nat.count (goes (logits (in0 m c) (in1 m c)) l.val) 65536 : Nat) : EReal) = _
  split
  · rfl
  · next hl =>
    have : Nat.count (goes (logits (in0 m c) (in1 m c)) l.val) 65536 = 0 := by
      refine Nat.count_of_forall_not fun n _ hg => hl ?_
      rcases hg with h | h <;> exact h ▸ num_lt _ _
    rw [this, Nat.cast_zero]

end Grid

/-- The kernel's run, with the arrays it leaves at the reference's results of the arguments. -/
theorem run (m : (ℓ : Loc nD τ sig) → Buf (Elt Ideal) ℓ) (ρ : Dev nD → PrngReg) (h : Cert.Pre_Kernel8Ideal m) :
    θ_run defs (onTc (τ := τ) (main (F := Ideal))) ⟨m, fun _ => 0, ρ⟩ fun r => ∀ c : Dev nD,
      r.2.mem ((c : Thread nD τ).loc main_v4_0) = G0 (m ((c : Thread nD τ).loc main_arg0)) (m ((c : Thread nD τ).loc main_arg1))
      ∧ r.2.mem ((c : Thread nD τ).loc main_v4_1) = G1 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r hb c => ?_) (run_blocks m ρ)
  obtain ⟨h0, h1⟩ := reals (in0 m c) (in1 m c) (h c)
  have hr := logit_real _ _ h0 h1
  exact ⟨(hb c).1.trans ((dats m 0 c).arrAt_eq_of_cover 2 _ (fun t _ => flushed2_eq m c hr t) covered2),
    (hb c).2.1.trans ((final3 m c).trans (counts_eq m c hr)), (hb c).2.2⟩

end Cert.Proof.Router

end
-- ==== Proof.lean ====
/-
  The claims about the calls of one layer, assembled: the frames are the generated runs, the values those of the modules beside
  this one.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_names_experts
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel8Ideal.Value
public import proofs.«01_k».proof.Proof.Gen.Pre_finite
public import proofs.«01_k».proof.Proof.Inproj
public import proofs.«01_k».proof.Proof.Ffn
public import proofs.«01_k».proof.Proof.Merge
public import proofs.«01_k».proof.Proof.Experts
public import proofs.«01_k».proof.Proof.Combine
public import proofs.«01_k».proof.Proof.Combine2
public import proofs.«01_k».proof.Proof.Router
public import Idealize.ShloMosaic.Adequacy
public import Idealize.ShloMosaic.Init

@[expose] public section

noncomputable section

namespace Cert.Proof

open Idealize.ShloMosaic Idealize.SL.Sem

/-- The norm and the combined input projection. -/
theorem algebraic2 : @Cert.algebraic_Kernel2Ideal_Reference2Ideal Cert.Kernel2Ideal.Gen.facts Cert.Reference2Ideal.Gen.facts :=
  fun m ρ m' ρ' _ hag => ⟨fun c => Inproj.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), Inproj.run m ρ,
    (θ_run _ _ _).mono (fun _ h c => ⟨(h c).1.trans ((show _ = Inproj.G (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) from rfl).trans
      (by rw [(hag c).1, (hag c).2.1, (hag c).2.2])), (h c).2⟩) (Cert.Reference2Ideal.Value.run m' ρ')⟩

theorem frame_reference2 : @Cert.quiescent_Reference2Ideal Cert.Reference2Ideal.Gen.facts :=
  fun m ρ _ => (θ_run _ _ _).mono (fun r h => ⟨fun c => (h c).2, Idealize.ShloMosaic.sem_eq_zero_of_no_sems (by decide) r.2⟩) (Cert.Reference2Ideal.Value.run m ρ)

/-- The dense channel sublayer. -/
theorem algebraic3 : @Cert.algebraic_Kernel3Ideal_Reference3Ideal Cert.Kernel3Ideal.Gen.facts Cert.Reference3Ideal.Gen.facts :=
  fun m ρ m' ρ' _ hag => ⟨fun c => Ffn.G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), Ffn.run m ρ,
    (θ_run _ _ _).mono (fun _ h c => ⟨(h c).1.trans ((show _ = Ffn.G (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) from rfl).trans
      (by rw [(hag c).1, (hag c).2.1, (hag c).2.2.1, (hag c).2.2.2.1, (hag c).2.2.2.2])), (h c).2⟩) (Cert.Reference3Ideal.Value.run m' ρ')⟩

theorem frame_reference3 : @Cert.quiescent_Reference3Ideal Cert.Reference3Ideal.Gen.facts :=
  fun m ρ _ => (θ_run _ _ _).mono (fun r h => ⟨fun c => (h c).2, Idealize.ShloMosaic.sem_eq_zero_of_no_sems (by decide) r.2⟩) (Cert.Reference3Ideal.Value.run m ρ)

/-- The merge of the branches and the next norm. -/
theorem algebraic4 : @Cert.algebraic_Kernel4Ideal_Reference4Ideal Cert.Kernel4Ideal.Gen.facts Cert.Reference4Ideal.Gen.facts :=
  fun m ρ m' ρ' _ hag => ⟨fun c => Merge.G0 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)), fun c => Merge.G1 (Merge.Z (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) (m ((c.tc : Thread Cert.Kernel4Ideal.nD Cert.Kernel4Ideal.τ).loc Cert.Kernel4Ideal.main_arg7)), Merge.run m ρ,
    (θ_run _ _ _).mono (fun _ h c => ⟨(h c).1.trans ((show _ = Merge.G0 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) from rfl).trans
      (by rw [(hag c).1, (hag c).2.1, (hag c).2.2.1, (hag c).2.2.2.1, (hag c).2.2.2.2.1, (hag c).2.2.2.2.2.1, (hag c).2.2.2.2.2.2.1])), (h c).2.1.trans ((show _ = Merge.G1 (Merge.Z (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) (m' ((c.tc : Thread Cert.Reference4Ideal.nD Cert.Reference4Ideal.τ).loc Cert.Reference4Ideal.main_arg7)) from rfl).trans
      (by rw [(hag c).1, (hag c).2.1, (hag c).2.2.1, (hag c).2.2.2.1, (hag c).2.2.2.2.1, (hag c).2.2.2.2.2.1, (hag c).2.2.2.2.2.2.1, (hag c).2.2.2.2.2.2.2])), (h c).2.2⟩) (Cert.Reference4Ideal.Value.run m' ρ')⟩

theorem frame_reference4 : @Cert.quiescent_Reference4Ideal Cert.Reference4Ideal.Gen.facts :=
  fun m ρ _ => (θ_run _ _ _).mono (fun r h => ⟨fun c => (h c).2.2, Idealize.ShloMosaic.sem_eq_zero_of_no_sems (by decide) r.2⟩) (Cert.Reference4Ideal.Value.run m ρ)

/-- The experts, a block of sorted rows at a time. -/
theorem algebraic5 : @Cert.algebraic_Kernel5Ideal_Reference5Ideal Cert.Kernel5Ideal.Gen.facts Cert.Reference5Ideal.Gen.facts Cert.Pre_names_experts.Gen.facts :=
  fun m ρ m' ρ' h₀ hag => ⟨fun c => Experts.G (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)), Experts.run m ρ h₀,
    (θ_run _ _ _).mono (fun _ h c => ⟨(h c).1.trans ((show _ = Experts.G (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) from rfl).trans
      (by rw [(hag c).1, (hag c).2.1, (hag c).2.2.1, (hag c).2.2.2.1, (hag c).2.2.2.2.1, (hag c).2.2.2.2.2])), (h c).2⟩) (Cert.Reference5Ideal.Value.run m' ρ')⟩

theorem frame_reference5 : @Cert.quiescent_Reference5Ideal Cert.Reference5Ideal.Gen.facts Cert.Pre_names_experts.Gen.facts :=
  fun m ρ _ => (θ_run _ _ _).mono (fun r h => ⟨fun c => (h c).2, Idealize.ShloMosaic.sem_eq_zero_of_no_sems (by decide) r.2⟩) (Cert.Reference5Ideal.Value.run m ρ)

/-- The two expert rows of each token, weighted and added to the residual stream. -/
theorem algebraic6 : @Cert.algebraic_Kernel6Ideal_Reference6Ideal Cert.Kernel6Ideal.Gen.facts Cert.Reference6Ideal.Gen.facts :=
  fun m ρ m' ρ' _ hag => ⟨fun c => Combine.G (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), Combine.run m ρ,
    (θ_run _ _ _).mono (fun _ h c => ⟨(h c).1.trans ((show _ = Combine.G (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) from rfl).trans
      (by rw [(hag c).1, (hag c).2.1, (hag c).2.2.1, (hag c).2.2.2])), (h c).2⟩) (Cert.Reference6Ideal.Value.run m' ρ')⟩

theorem frame_reference6 : @Cert.quiescent_Reference6Ideal Cert.Reference6Ideal.Gen.facts :=
  fun m ρ _ => (θ_run _ _ _).mono (fun r h => ⟨fun c => (h c).2, Idealize.ShloMosaic.sem_eq_zero_of_no_sems (by decide) r.2⟩) (Cert.Reference6Ideal.Value.run m ρ)

/-- The same on the second batch. -/
theorem algebraic7 : @Cert.algebraic_Kernel7Ideal_Reference7Ideal Cert.Kernel7Ideal.Gen.facts Cert.Reference7Ideal.Gen.facts :=
  fun m ρ m' ρ' _ hag => ⟨fun c => Combine2.G (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)), Combine2.run m ρ,
    (θ_run _ _ _).mono (fun _ h c => ⟨(h c).1.trans ((show _ = Combine2.G (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) from rfl).trans
      (by rw [(hag c).1, (hag c).2.1, (hag c).2.2.1, (hag c).2.2.2])), (h c).2⟩) (Cert.Reference7Ideal.Value.run m' ρ')⟩

theorem frame_reference7 : @Cert.quiescent_Reference7Ideal Cert.Reference7Ideal.Gen.facts :=
  fun m ρ _ => (θ_run _ _ _).mono (fun r h => ⟨fun c => (h c).2, Idealize.ShloMosaic.sem_eq_zero_of_no_sems (by decide) r.2⟩) (Cert.Reference7Ideal.Value.run m ρ)

/-- The choice of the experts, their gates and the places of the choices. -/
theorem algebraic8 : @Cert.algebraic_Kernel8Ideal_Reference8Ideal Cert.Kernel8Ideal.Gen.facts Cert.Reference8Ideal.Gen.facts Cert.Pre_finite.Gen.facts :=
  fun m ρ m' ρ' h₀ hag => ⟨fun c => Router.G0 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), fun c => Router.G1 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), Router.run m ρ h₀,
    (θ_run _ _ _).mono (fun _ h c => ⟨(h c).1.trans ((show _ = Router.G0 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) from rfl).trans
      (by rw [(hag c).1, (hag c).2])), (h c).2.1.trans ((show _ = Router.G1 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) from rfl).trans
      (by rw [(hag c).1, (hag c).2])), (h c).2.2⟩) (Cert.Reference8Ideal.Value.run m' ρ')⟩

theorem frame_reference8 : @Cert.quiescent_Reference8Ideal Cert.Reference8Ideal.Gen.facts Cert.Pre_finite.Gen.facts :=
  fun m ρ _ => (θ_run _ _ _).mono (fun r h => ⟨fun c => (h c).2.2, Idealize.ShloMosaic.sem_eq_zero_of_no_sems (by decide) r.2⟩) (Cert.Reference8Ideal.Value.run m ρ)

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_names_experts.Gen.facts, Cert.Pre_finite.Gen.facts,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ h => Cert.Kernel5.Gen.frame m ρ (Experts.ok_bits m h),
  fun m ρ h => Cert.Kernel5Ideal.Gen.frame m ρ (Experts.ok m h),
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  trivial,
  algebraic2,
  trivial,
  algebraic3,
  trivial,
  algebraic4,
  trivial,
  algebraic5,
  trivial,
  algebraic6,
  trivial,
  algebraic7,
  trivial,
  algebraic8⟩

end Cert.Proof

end
